-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S1x1 : Shape := ⟨2, ![1, 1]⟩
abbrev S256x32 : Shape := ⟨2, ![256, 32]⟩
abbrev S256x1 : Shape := ⟨2, ![256, 1]⟩
abbrev S256x8192 : Shape := ⟨2, ![256, 8192]⟩
abbrev S1x256 : Shape := ⟨2, ![1, 256]⟩
abbrev S1x256x32 : Shape := ⟨3, ![1, 256, 32]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 42
  | .vmem => 9
  | .smem => 3
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S8192x1, .i32⟩
  | .hbm, ⟨33, _⟩ => ⟨S8192x32, .bf16⟩
  | .hbm, ⟨34, _⟩ => ⟨S8192x32, .f32⟩
  | .hbm, ⟨35, _⟩ => ⟨S1x1, .f32⟩
  | .hbm, ⟨36, _⟩ => ⟨S1x1, .f32⟩
  | .hbm, ⟨37, _⟩ => ⟨S8x32x32x32, .f32⟩
  | .hbm, ⟨38, _⟩ => ⟨S8x32x32x32, .f32⟩
  | .hbm, ⟨39, _⟩ => ⟨S_, .f32⟩
  | .hbm, ⟨40, _⟩ => ⟨S_, .f32⟩
  | .hbm, ⟨41, _⟩ => ⟨S8192x1, .i32⟩
  | .local _ .vmem, ⟨0, _⟩ => ⟨S256x32, .f32⟩
  | .local _ .vmem, ⟨1, _⟩ => ⟨S256x32, .f32⟩
  | .local _ .vmem, ⟨2, _⟩ => ⟨S256x1, .i32⟩
  | .local _ .vmem, ⟨3, _⟩ => ⟨S256x1, .i32⟩
  | .local _ .vmem, ⟨4, _⟩ => ⟨S8192x32, .bf16⟩
  | .local _ .vmem, ⟨5, _⟩ => ⟨S256x32, .f32⟩
  | .local _ .vmem, ⟨6, _⟩ => ⟨S256x32, .f32⟩
  | .local _ .vmem, ⟨7, _⟩ => ⟨S1x8192, .f32⟩
  | .local _ .vmem, ⟨8, _⟩ => ⟨S256x8192, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch2 : Ref sig .tc := ⟨.vmem, 8, rfl⟩
abbrev cc0_stg4_0 : Ref sig .tc := ⟨.smem, 0, rfl⟩
abbrev cc0_stg5_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v40 : BitVec 1 := Scalar.cmpi .eq arg0 c31_i32
  let v41 : BitVec 32 := Scalar.extui v40
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S8192x32, .f32⟩
  | .hbm, ⟨33, _⟩ => ⟨S8x32x32x32, .f32⟩
  | .hbm, ⟨34, _⟩ => ⟨S8x32x32x32, .f32⟩
  | .hbm, ⟨35, _⟩ => ⟨S8x32x32x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x32x32x32, .f32⟩
  | .hbm, ⟨41, _⟩ => ⟨S8x32x32x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8x32x32x32, .f32⟩
  | .hbm, ⟨71, _⟩ => ⟨S8x32x32x32, .f32⟩
  | .hbm, ⟨72, _⟩ => ⟨S8x32x32x32, .f32⟩
  | .hbm, ⟨73, _⟩ => ⟨S8192x1, .i32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Body.lean ====
/-
  What one run of the kernel's body computes, as values.

  The body runs once per tile of 256 tokens. Its three cases are the first tile (the two accumulators are reset
  first), a middle tile, and the last tile (the loss and the perplexity are stored at the end). The frame names what
  each case leaves in each buffer as pieces read back; here each is the payload of its last covering store, over the
  tile's tokens `x`, codes `k` and the codebook `e`, and over what the accumulators held before.
-/
module

public import proofs.«01_k».proof.Proof.Gen.KernelIdeal.Frame
public import Idealize.ShloMosaic.Lib.Pipeline.Value

@[expose] public section

noncomputable section

namespace Cert.VQ

open Cert.KernelIdeal Cert.KernelIdeal.Gen Idealize.ShloMosaic Idealize.ShloMosaic.TcCoe Idealize.SL.Sem
open Idealize.ShloMosaic.Pipeline (Dat)

variable {F : FTy → Type} [FloatOps F]

theorem off_zero : (![0, 0] : Fin 2 → Nat) = fun _ => 0 := by funext a; fin_cases a <;> rfl

/-- The tile's one-hot rows, from its codes. -/
abbrev tileHot (k : Vec F S256x1 .i32) : FVec F S256x8192 .bf16 := k0_pay5 (F := F) k
/-- The tile's straight-through output: `x + (q - x)`. -/
abbrev tileOut (x : Vec F S256x32 .f32) (k : Vec F S256x1 .i32) (e : Vec F S8192x32 .bf16) : FVec F S256x32 .f32 :=
  k0_pay7 x (tileHot k) e
/-- The histogram after the tile, over the histogram before it. -/
abbrev tileCounts (k : Vec F S256x1 .i32) (h : Vec F S1x8192 .f32) : FVec F S1x8192 .f32 := k0_pay9 (tileHot k) h
/-- The one position of a one-element buffer. -/
abbrev only : S1x1.Idx := Shape.Idx.first (by decide)
theorem ld_only (s : Vec F S1x1 .f32) (h : 0 < (Rect.unit (s := S1x1) ![0, 0] ![1, 1] inb_S1x1_S1x1_0_0).shape.numel) :
    View.ld (Val := Elt F) s (Rect.unit (s := S1x1) ![0, 0] ![1, 1] inb_S1x1_S1x1_0_0) (Shape.Idx.first h) = s only :=
  congrFun (View.ld_unit_zero (S := S1x1) off_zero inb_S1x1_S1x1_0_0 s) _
/-- The squared error after the tile, over the squared error before it. -/
abbrev tileErr (x : Vec F S256x32 .f32) (k : Vec F S256x1 .i32) (e : Vec F S8192x32 .bf16) (s : F .f32) : F .f32 :=
  k0_pay1 (k0_pay4 x) (k0_pay6 (tileHot k) e) s

section Cases

variable (c : Dev nD) (i : grid0.Coords)
  (arg1 : Memref sig .tc .vmem S256x32 .f32) (harg1 : arg1.IsWhole) (arg2 : Memref sig .tc .vmem S256x1 .i32) (harg2 : arg2.IsWhole)
  (arg3 : Memref sig .tc .vmem S8192x32 .bf16) (harg3 : arg3.IsWhole) (arg4 : Memref sig .tc .vmem S256x32 .f32) (harg4 : arg4.IsWhole)
  (arg5 : Memref sig .tc .smem S1x1 .f32) (harg5 : arg5.IsWhole) (arg6 : Memref sig .tc .smem S1x1 .f32) (harg6 : arg6.IsWhole)
  (arg7 : Memref sig .tc .vmem S1x8192 .f32) (harg7 : arg7.IsWhole) (arg8 : Memref sig .tc .smem S1x1 .f32) (harg8 : arg8.IsWhole)
  (arg9 : Memref sig .tc .vmem S256x8192 .bf16) (harg9 : arg9.IsWhole)
  (x : Vec F S256x32 .f32) (k : Vec F S256x1 .i32) (e : Vec F S8192x32 .bf16) (h : Vec F S1x8192 .f32) (s : Vec F S1x1 .f32)

/-- The first tile's straight-through output. -/
theorem out_first (hc0 : cond0_0 i) (hc1 : ¬cond0_1 i) :
    out0_A_3 c i arg1 harg1 arg2 harg2 arg3 harg3 arg4 harg4 arg5 harg5 arg6 harg6 arg7 harg7 arg8 harg8 arg9 harg9 hc0 hc1 x k e
      = tileOut x k e := by
  unfold out0_A_3
  rw [View.read_writes_eq_canon _ _ _ (cover0_A_3 c i arg1 harg1 arg2 harg2 arg3 harg3 arg4 harg4 arg5 harg5 arg6 harg6 arg7 harg7 arg8 harg8 arg9 harg9 hc0 hc1 x k e)]
  unfold kernelRun0_A
  dsimp only
  sl_unfold_words
  first
    | rw [View.canon_unit_zero (S := S256x32) off_zero]
    | rw [View.canon_cons_unit_zero (S := S256x32) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The first tile's histogram. -/
theorem counts_first (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x k e
      = tileCounts k k0_pay8 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x k e)]
  unfold kernelRun0_A
  dsimp only
  sl_unfold_words
  first
    | rw [View.canon_cons_unit_zero (S := S1x8192) off_zero]
    | rw [View.canon_cons_unit_zero (S := S1x8192) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The first tile's squared error. -/
theorem err_first (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x k e
      = fun _ => tileErr x k e (Scalar.ofBits .f32 0x00000000#32) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x k e)]
  unfold kernelRun0_A
  dsimp only
  sl_unfold_words
  first
    | rw [View.canon_cons_unit_zero (S := S1x1) off_zero]
    | rw [View.canon_cons_unit_zero (S := S1x1) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]
  rfl

/-- The middle tile's straight-through output. -/
theorem out_middle (hc0 : ¬cond0_0 i) (hc1 : ¬cond0_1 i) :
    out0_B_3 c i arg1 harg1 arg2 harg2 arg3 harg3 arg4 harg4 arg5 harg5 arg6 harg6 arg7 harg7 arg8 harg8 arg9 harg9 hc0 hc1 x k e h s
      = tileOut x k e := by
  unfold out0_B_3
  rw [View.read_writes_eq_canon _ _ _ (cover0_B_3 c i arg1 harg1 arg2 harg2 arg3 harg3 arg4 harg4 arg5 harg5 arg6 harg6 arg7 harg7 arg8 harg8 arg9 harg9 hc0 hc1 x k e h s)]
  unfold kernelRun0_B
  dsimp only
  sl_unfold_words
  first
    | rw [View.canon_unit_zero (S := S256x32) off_zero]
    | rw [View.canon_cons_unit_zero (S := S256x32) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The middle tile's histogram. -/
theorem counts_middle (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x k e h s
      = tileCounts k h := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x k e h s)]
  unfold kernelRun0_B
  dsimp only
  sl_unfold_words
  first
    | rw [View.canon_unit_zero (S := S1x8192) off_zero]
    | rw [View.canon_cons_unit_zero (S := S1x8192) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The middle tile's squared error. -/
theorem err_middle (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x k e h s
      = fun _ => tileErr x k e (s only) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x k e h s)]
  unfold kernelRun0_B
  dsimp only
  sl_unfold_words
  first
    | rw [View.canon_unit_zero (S := S1x1) off_zero]
    | rw [View.canon_cons_unit_zero (S := S1x1) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]
  exact funext fun _ => congrArg _ (ld_only s _)

/-- The last tile's straight-through output. -/
theorem out_last (hc0 : ¬cond0_0 i) (hc1 : cond0_1 i) :
    out0_C_3 c i arg1 harg1 arg2 harg2 arg3 harg3 arg4 harg4 arg5 harg5 arg6 harg6 arg7 harg7 arg8 harg8 arg9 harg9 hc0 hc1 x k e h s
      = tileOut x k e := by
  unfold out0_C_3
  rw [View.read_writes_eq_canon _ _ _ (cover0_C_3 c i arg1 harg1 arg2 harg2 arg3 harg3 arg4 harg4 arg5 harg5 arg6 harg6 arg7 harg7 arg8 harg8 arg9 harg9 hc0 hc1 x k e h s)]
  unfold kernelRun0_C
  dsimp only
  sl_unfold_words
  first
    | rw [View.canon_unit_zero (S := S256x32) off_zero]
    | rw [View.canon_cons_unit_zero (S := S256x32) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The last tile's histogram. -/
theorem counts_last (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x k e h s
      = tileCounts k h := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x k e h s)]
  unfold kernelRun0_C
  dsimp only
  sl_unfold_words
  first
    | rw [View.canon_unit_zero (S := S1x8192) off_zero]
    | rw [View.canon_cons_unit_zero (S := S1x8192) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]

/-- The last tile's squared error. -/
theorem err_last (hc0 : ¬cond0_0 i) (hc1 : cond0_1 i) :
    sout0_C_1 c i arg1 harg1 arg2 harg2 arg3 harg3 arg4 harg4 arg5 harg5 arg6 harg6 arg7 harg7 arg8 harg8 arg9 harg9 hc0 hc1 x k e h s
      = fun _ => tileErr x k e (s only) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x k e h s)]
  unfold kernelRun0_C
  dsimp only
  sl_unfold_words
  first
    | rw [View.canon_unit_zero (S := S1x1) off_zero]
    | rw [View.canon_cons_unit_zero (S := S1x1) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]
  exact funext fun _ => congrArg _ (ld_only s _)

/-- The last tile's loss. -/
theorem loss_last (hc0 : ¬cond0_0 i) (hc1 : cond0_1 i) :
    out0_C_4 c i arg1 harg1 arg2 harg2 arg3 harg3 arg4 harg4 arg5 harg5 arg6 harg6 arg7 harg7 arg8 harg8 arg9 harg9 hc0 hc1 x k e h s
      = fun _ => k0_pay3 (tileCounts k h) (tileErr x k e (s only)) := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x k e h s)]
  unfold kernelRun0_C
  dsimp only
  sl_unfold_words
  first
    | rw [View.canon_unit_zero (S := S1x1) off_zero]
    | rw [View.canon_cons_unit_zero (S := S1x1) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]
  exact funext fun _ => congrArg (fun t => k0_pay3 (tileCounts k h) (tileErr x k e t)) (ld_only s _)

/-- The last tile's perplexity. -/
theorem perp_last (hc0 : ¬cond0_0 i) (hc1 : cond0_1 i) :
    out0_C_5 c i arg1 harg1 arg2 harg2 arg3 harg3 arg4 harg4 arg5 harg5 arg6 harg6 arg7 harg7 arg8 harg8 arg9 harg9 hc0 hc1 x k e h s
      = fun _ => k0_pay2 (tileCounts k h) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x k e h s)]
  unfold kernelRun0_C
  dsimp only
  sl_unfold_words
  first
    | rw [View.canon_unit_zero (S := S1x1) off_zero]
    | rw [View.canon_cons_unit_zero (S := S1x1) off_zero]
  simp only [View.readCov_unit_zero (S := S256x8192) _ off_zero, View.readCov_unit_zero (S := S1x8192) _ off_zero,
    View.readCov_unit_zero (S := S1x1) _ off_zero, View.readAt_eq_ld,
    harg1.read_unread, harg2.read_unread, harg3.read_unread, harg7.read_unread, harg8.read_unread,
    View.ld_unit_zero (S := S256x32) off_zero, View.ld_unit_zero (S := S256x1) off_zero,
    View.ld_unit_zero (S := S8192x32) off_zero, View.ld_unit_zero (S := S1x8192) off_zero,
    View.ld_unit_zero (S := S1x1) off_zero]
  rfl

end Cases

end Cert.VQ

end
-- ==== Proof.Fold.lean ====
/-
  The accumulators over the tiles, and what each output's staging buffer holds after a tile.

  The histogram and the squared error start from zero at the first tile and grow by one tile at a time. The frame states
  what a tile leaves over what the tile before left; by induction that is the running pair `acc` below.
-/
module

public import proofs.«01_k».proof.Proof.Body

@[expose] public section

noncomputable section

namespace Cert.VQ

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- Tile `t`'s tokens, codes and codebook. -/
abbrev xs (c : Dev nD) (t : Fin cfg0.N) : Vec F S256x32 .f32 := iblk m c 0 t
abbrev ks (c : Dev nD) (t : Fin cfg0.N) : Vec F S256x1 .i32 := iblk m c 1 t
abbrev es (c : Dev nD) (t : Fin cfg0.N) : Vec F S8192x32 .bf16 := iblk m c 2 t

/-- The histogram and the squared error after tiles `0..n`. -/
def acc (c : Dev nD) : (n : ℕ) → n < cfg0.N → FVec F S1x8192 .f32 × F .f32
  | 0, h => (tileCounts (ks m c ⟨0, h⟩) k0_pay8,
      tileErr (xs m c ⟨0, h⟩) (ks m c ⟨0, h⟩) (es m c ⟨0, h⟩) (Scalar.ofBits .f32 0x00000000#32))
  | n + 1, h => (tileCounts (ks m c ⟨n + 1, h⟩) (acc c n (Nat.lt_of_succ_lt h)).1,
      tileErr (xs m c ⟨n + 1, h⟩) (ks m c ⟨n + 1, h⟩) (es m c ⟨n + 1, h⟩) (acc c n (Nat.lt_of_succ_lt h)).2)

theorem tile_lt (t : Fin cfg0.N) : t.val < 32 := lt_of_lt_of_le t.isLt (by show cfg0.N ≤ 32; decide)

/-- The two carried scratches after tile `n` hold the running pair. -/
theorem scratch_eq (c : Dev nD) : ∀ (n : ℕ) (h : n < cfg0.N),
    (outsAt0 m c n h).2.2.2.1 = (acc m c n h).1 ∧ (outsAt0 m c n h).2.2.2.2 = fun _ => (acc m c n h).2
  | 0, h => by
    rw [outsAt0_A m c ⟨0, h⟩ (by dsimp only) (by dsimp only; omega)]
    dsimp only
    rw [counts_first, err_first]
    exact ⟨rfl, rfl⟩
  | n + 1, h => by
    have hn : n + 1 < 32 := tile_lt ⟨n + 1, h⟩
    have h0 : ¬(⟨n + 1, h⟩ : Fin cfg0.N).val % 32 = 0 := by dsimp only; omega
    obtain ⟨i1, i2⟩ := scratch_eq c n (Nat.lt_of_succ_lt h)
    by_cases h1 : (⟨n + 1, h⟩ : Fin cfg0.N).val % 32 = 31
    · rw [outsAt0_C m c ⟨n + 1, h⟩ h0 h1]
      dsimp only [Nat.add_sub_cancel]
      rw [counts_last, err_last]
      simp only [Nat.add_sub_cancel, i1, i2]
      exact ⟨rfl, rfl⟩
    · rw [outsAt0_B m c ⟨n + 1, h⟩ h0 h1]
      dsimp only [Nat.add_sub_cancel]
      rw [counts_middle, err_middle]
      simp only [Nat.add_sub_cancel, i1, i2]
      exact ⟨rfl, rfl⟩

/-- After tile `t` the first output's staging buffer holds the tile's straight-through output. -/
theorem staged_out (c : Dev nD) (t : Fin cfg0.N) :
    (outsAt0 m c t.val t.isLt).1 = tileOut (xs m c t) (ks m c t) (es m c t) := by
  have ht := tile_lt t
  by_cases h0 : t.val % 32 = 0
  · rw [outsAt0_A m c t h0 (by omega)]
    dsimp only
    rw [out_first]
  · by_cases h1 : t.val % 32 = 31
    · rw [outsAt0_C m c t h0 h1]
      dsimp only
      rw [out_last]
    · rw [outsAt0_B m c t h0 h1]
      dsimp only
      rw [out_middle]

/-- After the last tile the second and third outputs' staging buffers hold the loss and the perplexity. -/
theorem staged_scalars (c : Dev nD) (t : Fin cfg0.N) (h1 : t.val = 31) :
    (outsAt0 m c t.val t.isLt).2.1 = (fun _ => k0_pay3 (acc m c t.val t.isLt).1 (acc m c t.val t.isLt).2)
    ∧ (outsAt0 m c t.val t.isLt).2.2.1 = fun _ => k0_pay2 (acc m c t.val t.isLt).1 := by
  obtain ⟨n, hn⟩ := t
  dsimp only at h1
  subst h1
  obtain ⟨i1, i2⟩ := scratch_eq m c 30 (Nat.lt_of_succ_lt hn)
  rw [outsAt0_C m c ⟨31, hn⟩ (by dsimp only; omega) (by dsimp only)]
  dsimp only
  rw [loss_last, perp_last]
  simp only [Nat.reduceSub, i1, i2]
  exact ⟨rfl, rfl⟩

end Cert.VQ

end
-- ==== Proof.Blocks.lean ====
/-
  The blocks the tiles read, as entries of the arrays: tile `t` holds rows `256 t` to `256 t + 255` of the tokens and of
  the codes, and the whole codebook.
-/
module

public import proofs.«01_k».proof.Proof.Fold
public import Idealize.ShloMosaic.Lib.Pointwise

@[expose] public section

noncomputable section

namespace Cert.VQ

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The whole array's row that is row `r` of tile `t`. -/
def row (t : Fin cfg0.N) (r : Fin 256) : Fin 8192 := ⟨t.val * 256 + r.val, by have := tile_lt t; have := r.isLt; omega⟩

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = t.val ∧ win0_3.index t 1 = 0 := by decide +kernel

/-- Reading any array of tokens through tile `t`'s block. -/
theorem read_tokens (B : Vec F S8192x32 .f32) (t : Fin cfg0.N) (r : Fin 256) (d : Fin 32) :
    (((cfg0.win 0).blk t).view.read (Elt F) B : Vec F S256x32 .f32) (ix2 r d) = B (ix2 (row t r) d) := by
  rw [View.read_apply]
  show B _ = B _
  congr 1
  funext a
  apply Fin.ext
  match a with
  | ⟨0, _⟩ => show win0_0.index t 0 * 256 + 1 * r.val = t.val * 256 + r.val; rw [(index_0 t).1]; omega
  | ⟨1, _⟩ => show win0_0.index t 1 * 32 + 1 * d.val = d.val; rw [(index_0 t).2]; omega

/-- Reading any column of codes through tile `t`'s block. -/
theorem read_codes (B : Vec F S8192x1 .i32) (t : Fin cfg0.N) (r : Fin 256) :
    (((cfg0.win 1).blk t).view.read (Elt F) B : Vec F S256x1 .i32) (ix2 r 0) = B (ix2 (row t r) 0) := by
  rw [View.read_apply]
  show B _ = B _
  congr 1
  funext a
  apply Fin.ext
  match a with
  | ⟨0, _⟩ => show win0_1.index t 0 * 256 + 1 * r.val = t.val * 256 + r.val; rw [(index_1 t).1]; omega
  | ⟨1, _⟩ => show win0_1.index t 1 * 1 + 1 * 0 = 0; rw [(index_1 t).2]

/-- Reading any codebook through the codebook's window. -/
theorem read_book (B : Vec F S8192x32 .bf16) (t : Fin cfg0.N) :
    (((cfg0.win 2).blk t).view.read (Elt F) B : Vec F S8192x32 .bf16) = B := by
  funext j
  rw [View.read_apply]
  show B _ = B _
  congr 1
  funext a
  apply Fin.ext
  match a with
  | ⟨0, _⟩ => show win0_2.index t 0 * 8192 + 1 * (j 0).val = (j 0).val; rw [(index_2 t).1]; omega
  | ⟨1, _⟩ => show win0_2.index t 1 * 32 + 1 * (j 1).val = (j 1).val; rw [(index_2 t).2]; omega

/-- The tile's blocks, when the arrays are known. -/
theorem xs_apply (c : Dev nD) (B : Vec F S8192x32 .f32) (hB : V m c main_v1 = B) (t : Fin cfg0.N) (r : Fin 256) (d : Fin 32) :
    xs m c t (ix2 r d) = B (ix2 (row t r) d) := by
  subst hB
  exact read_tokens _ t r d
theorem ks_apply (c : Dev nD) (B : Vec F S8192x1 .i32) (hB : V m c main_v18 = B) (t : Fin cfg0.N) (r : Fin 256) :
    ks m c t (ix2 r 0) = B (ix2 (row t r) 0) := by
  have e : ks m c t = (((cfg0.win 1).blk t).view.read (Elt F) B : Vec F S256x1 .i32) := by rw [← hB]; rfl
  rw [e]
  exact read_codes B t r
theorem es_eq (c : Dev nD) (B : Vec F S8192x32 .bf16) (hB : V m c main_v19 = B) (t : Fin cfg0.N) : es m c t = B := by
  subst hB
  exact read_book _ t

end Cert.VQ
-- ==== Proof.Arrays.lean ====
/-
  What the three arrays the tiles write hold after the last tile.

  The outputs' blocks tile their array; the loss and the perplexity are written once, by the last tile.
-/
module

public import proofs.«01_k».proof.Proof.Blocks
public import Idealize.ShloMosaic.Lib.Pipeline.Value

@[expose] public section

noncomputable section

namespace Cert.VQ

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The last tile. -/
def last : Fin cfg0.N := ⟨31, by show 31 < cfg0.N; decide⟩

/-- The loss and the perplexity the last tile leaves. -/
def lossOut (c : Dev nD) : FVec F S1x1 .f32 := fun _ => k0_pay3 (acc m c 31 last.isLt).1 (acc m c 31 last.isLt).2
def perpOut (c : Dev nD) : FVec F S1x1 .f32 := fun _ => k0_pay2 (acc m c 31 last.isLt).1

/-- The array of outputs, for any array the tiles' outputs are blocks of. -/
theorem outputs_final (c : Dev nD) (G : Vec F S8192x32 .f32)
    (hG : ∀ (t : Fin cfg0.N) (r : Fin 256) (d : Fin 32),
      tileOut (xs m c t) (ks m c t) (es m c t) (ix2 r d) = G (ix2 (row t r) d)) :
    (dats m 0 c).arrAt 3 cfg0.N = G := by
  refine (dats m 0 c).arrAt_eq_of_cover 3 G (fun t _ => ?_) (fun i => ?_)
  · show (cfg0.win 3).cut (grid0.coords t) ((dats m 0 c).after 3 t) = _
    rw [after0_3, staged_out]
    funext j
    rw [View.read_apply]
    have e : ∀ j : S256x32.Idx, tileOut (xs m c t) (ks m c t) (es m c t) j = G (ix2 (row t (j 0)) (j 1)) := fun j => by
      rw [← hG t (j 0) (j 1)]
      congr 1
      funext a
      match a with
      | ⟨0, _⟩ => rfl
      | ⟨1, _⟩ => rfl
    refine (e j).trans ?_
    show G _ = G _
    congr 1
    funext a
    apply Fin.ext
    match a with
    | ⟨0, _⟩ => show t.val * 256 + (j 0).val = win0_3.index t 0 * 256 + 1 * (j 0).val; rw [(index_3 t).1]; omega
    | ⟨1, _⟩ => show (j 1).val = win0_3.index t 1 * 32 + 1 * (j 1).val; rw [(index_3 t).2]; omega
  · have h0 : (i 0 : Nat) < 8192 := (i 0).isLt
    have h1 : (i 1 : Nat) < 32 := (i 1).isLt
    have hN : 32 ≤ cfg0.N := by decide
    obtain ⟨t, ht⟩ : ∃ t : Fin cfg0.N, t.val = (i 0 : Nat) / 256 := ⟨⟨(i 0 : Nat) / 256, by omega⟩, rfl⟩
    refine ⟨t, flush0_3 t, ?_⟩
    show i ∈ ((View.whole main_v20_0).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [(index_3 t).1, ht]
      omega
    | ⟨1, _⟩ =>
      show win0_3.index t 1 * 32 ≤ (i 1 : Nat) ∧ (i 1 : Nat) < win0_3.index t 1 * 32 + 32
      rw [(index_3 t).2]
      omega

theorem eq_last (t : Fin cfg0.N) (h : t.val % 32 = 31) : t = last := by
  have := tile_lt t
  apply Fin.ext
  show t.val = 31
  omega

theorem loss_final (c : Dev nD) : (dats m 0 c).arrAt 4 cfg0.N = lossOut m c := by
  refine (dats m 0 c).arrAt_eq_of_cover 4 (lossOut m c) (fun t hf => ?_) (fun i => ⟨last, (flush0_4 last).2 rfl, ?_⟩)
  · obtain rfl := eq_last t ((flush0_4 t).1 hf)
    show (cfg0.win 4).cut (grid0.coords last) ((dats m 0 c).after 4 last) = _
    rw [after0_4, (staged_scalars m c last rfl).1]
    rfl
  · show i ∈ ((View.whole main_v20_1).slice (win0_4.rect last)).set
    rw [View.set_slice_whole, Rect.mem_set_unit]
    have e : ∀ a, win0_4.index last a = 0 := by decide +kernel
    intro a
    have h : (i a : Nat) < 1 := by match a with
      | ⟨0, _⟩ => exact (i 0).isLt
      | ⟨1, _⟩ => exact (i 1).isLt
    match a with
    | ⟨0, _⟩ => show win0_4.index last 0 * 1 ≤ (i 0 : Nat) ∧ (i 0 : Nat) < win0_4.index last 0 * 1 + 1; rw [e]; exact ⟨by omega, by simpa using h⟩
    | ⟨1, _⟩ => show win0_4.index last 1 * 1 ≤ (i 1 : Nat) ∧ (i 1 : Nat) < win0_4.index last 1 * 1 + 1; rw [e]; exact ⟨by omega, by simpa using h⟩

theorem perp_final (c : Dev nD) : (dats m 0 c).arrAt 5 cfg0.N = perpOut m c := by
  refine (dats m 0 c).arrAt_eq_of_cover 5 (perpOut m c) (fun t hf => ?_) (fun i => ⟨last, (flush0_5 last).2 rfl, ?_⟩)
  · obtain rfl := eq_last t ((flush0_5 t).1 hf)
    show (cfg0.win 5).cut (grid0.coords last) ((dats m 0 c).after 5 last) = _
    rw [after0_5, (staged_scalars m c last rfl).2]
    rfl
  · show i ∈ ((View.whole main_v20_2).slice (win0_5.rect last)).set
    rw [View.set_slice_whole, Rect.mem_set_unit]
    have e : ∀ a, win0_5.index last a = 0 := by decide +kernel
    intro a
    have h : (i a : Nat) < 1 := by match a with
      | ⟨0, _⟩ => exact (i 0).isLt
      | ⟨1, _⟩ => exact (i 1).isLt
    match a with
    | ⟨0, _⟩ => show win0_5.index last 0 * 1 ≤ (i 0 : Nat) ∧ (i 0 : Nat) < win0_5.index last 0 * 1 + 1; rw [e]; exact ⟨by omega, by simpa using h⟩
    | ⟨1, _⟩ => show win0_5.index last 1 * 1 ≤ (i 1 : Nat) ∧ (i 1 : Nat) < win0_5.index last 1 * 1 + 1; rw [e]; exact ⟨by omega, by simpa using h⟩

end Cert.VQ
-- ==== Proof.RefRun.lean ====
/-
  The reference's run: the plain host program, stage by stage.

  Its operations are cut into six consecutive lists. For each, a lemma reads the buffers later stages use, over any
  contents the list starts from. Composed, they say what the five results hold, and that the arguments are kept.
-/
module

public import proofs.«01_k».proof.Proof.Gen.ReferenceIdeal
public import Idealize.ShloMosaic.Lib.StableHlo.Run
public import Idealize.ShloMosaic.Lib.Quiescent

@[expose] public section

noncomputable section

namespace Cert.VQ.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages as functions -/

/-- The input with its channels last. -/
def perm (x : FVec F S8x32x32x32 .f32) : FVec F S8x32x32x32 .f32 :=
  transpose S8x32x32x32 [0, 2, 3, 1] x transposes_S8x32x32x32_S8x32x32x32_0_2_3_1
/-- One row of 32 per token. -/
def flat (p : FVec F S8x32x32x32 .f32) : FVec F S8192x32 .f32 := shapeCast S8192x32 p shapeCasts_S8x32x32x32_S8192x32
/-- The squared norms of rows. -/
def norms (x : FVec F S8192x32 .f32) : FVec F S8192 .f32 :=
  Host.reduceAdd (mulf x x) (constant S_ .f32 0x00000000#32) reducesTo_S8192x32_S8192_d1 h_S_
/-- The squared distances of tokens to codebook rows. -/
def dist (f e : FVec F S8192x32 .f32) : FVec F S8192x8192 .f32 :=
  subf (addf (broadcastInDim S8192x8192 ![0, 1] bcast_S8192x1_S8192x8192_0_1 (broadcastInDim S8192x1 ![0] bcast_S8192_S8192x1_0 (norms f)))
      (broadcastInDim S8192x8192 ![0, 1] bcast_S1x8192_S8192x8192_0_1 (broadcastInDim S1x8192 ![1] bcast_S8192_S1x8192_1 (norms e))))
    (mulf (broadcastInDim S8192x8192 ![] bcast_S_S8192x8192 (constant S_ .f32 0x40000000#32))
      (Host.dotGeneral dot_S8192x32_S32x8192_S8192x8192_1_0_0_1_n_n none f (transpose S32x8192 [1, 0] e transposes_S8192x32_S32x8192_1_0)))
/-- The nearest codebook row of each token. -/
def code (d : FVec F S8192x8192 .f32) : Vec F S8192 .i32 := fun j =>
  (Host.argReduce reducer_argmin_f32_i32 d (iotaInDim S8192x8192 32 1) (constant S_ .f32 0x7F800000#32) (constantI S_ 32 0#32)
    reducesTo_S8192x8192_S8192_d1 h_S_ j).2
/-- The codes as a column. -/
def column (k : Vec F S8192 .i32) : Vec F S8192x1 .i32 := broadcastInDim S8192x1 ![0] bcast_S8192_S8192x1_0 k
/-- The one-hot rows of the codes. -/
def hot (k : Vec F S8192 .i32) : FVec F S8192x8192 .f32 :=
  uitofp .f32 (cmpi .eq (broadcastInDim S8192x8192 ![0, 1] bcast_S8192x1_S8192x8192_0_1 (column (F := F) k))
    (broadcastInDim S8192x8192 ![0, 1] bcast_S1x8192_S8192x8192_0_1 (iotaInDim S1x8192 32 1)))
/-- The quantized tokens, in the input's channels-last shape. -/
def quant (h : FVec F S8192x8192 .f32) (e : FVec F S8192x32 .f32) : FVec F S8x32x32x32 .f32 :=
  shapeCast S8x32x32x32 (Host.dotGeneral dot_S8192x8192_S8192x32_S8192x32_1_0_0_1_n_n none h e) shapeCasts_S8192x32_S8x32x32x32
/-- The mean squared error. -/
def mse (q p : FVec F S8x32x32x32 .f32) : FVec F S_ .f32 :=
  Host.divf (Host.reduceAdd (mulf (subf q p) (subf q p)) (constant S_ .f32 0x00000000#32) reducesTo_S8x32x32x32_S_d0_1_2_3 h_S_)
    (constant S_ .f32 0x48800000#32)
/-- The share of the tokens on each code. -/
def share (h : FVec F S8192x8192 .f32) : FVec F S8192 .f32 :=
  Host.divf (Host.reduceAdd h (constant S_ .f32 0x00000000#32) reducesTo_S8192x8192_S8192_d0 h_S_)
    (broadcastInDim S8192 ![] bcast_S_S8192 (constant S_ .f32 0x46000000#32))
/-- The perplexity of a share vector. -/
def perp (a : FVec F S8192 .f32) : FVec F S_ .f32 :=
  Host.exp (Host.negf (Host.reduceAdd
    (mulf a (Host.log (addf a (broadcastInDim S8192 ![] bcast_S_S8192 (constant S_ .f32 0x2EDBE6FF#32)))))
    (constant S_ .f32 0x00000000#32) reducesTo_S8192_S_d0 h_S_))
/-- The loss, from the mean squared error and the perplexity. -/
def loss (s p : FVec F S_ .f32) : FVec F S_ .f32 :=
  addf (addf s (mulf (constant S_ .f32 0x3E800000#32) s))
    (Host.divf (mulf (constant S_ .f32 0x3DCCCCCD#32) (subf (constant S_ .f32 0x46000000#32) p)) (constant S_ .f32 0x46000000#32))
/-- The straight-through output, channels first again. -/
def through (q p : FVec F S8x32x32x32 .f32) : FVec F S8x32x32x32 .f32 :=
  transpose S8x32x32x32 [0, 3, 1, 2] (addf p (subf q p)) transposes_S8x32x32x32_S8x32x32x32_0_3_1_2

/-! ## The operations -/

/-- Distances. -/
abbrev opsA : List (HloOp τ sig (Elt F)) :=
  [ StableHlo.unary main_arg0 main_v0 ((transpose S8x32x32x32 [0, 2, 3, 1] · transposes_S8x32x32x32_S8x32x32x32_0_2_3_1) : (⟨S8x32x32x32, .f32⟩ : BufTy).Contents (Elt F) → (⟨S8x32x32x32, .f32⟩ : BufTy).Contents (Elt F)),
    StableHlo.reshape main_v0 main_v1 (rfl : (.f32 : EltTy) = .f32) shapeCasts_S8x32x32x32_S8192x32,
    StableHlo.binary main_v1 main_v1 main_v2 (mulf : (⟨S8192x32, .f32⟩ : BufTy).Contents (Elt F) → (⟨S8192x32, .f32⟩ : BufTy).Contents (Elt F) → (⟨S8192x32, .f32⟩ : BufTy).Contents (Elt F)),
    StableHlo.nullary main_cst (constant S_ .f32 0x00000000#32),
    StableHlo.binary main_v2 main_cst main_v3 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.binary main_arg1 main_arg1 main_v5 (mulf : (⟨S8192x32, .f32⟩ : BufTy).Contents (Elt F) → (⟨S8192x32, .f32⟩ : BufTy).Contents (Elt F) → (⟨S8192x32, .f32⟩ : BufTy).Contents (Elt F)),
    StableHlo.nullary main_cst_0 (constant S_ .f32 0x00000000#32),
    StableHlo.binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v6 main_v7 (broadcastInDim S1x8192 ![1] bcast_S8192_S1x8192_1 : (⟨S8192, .f32⟩ : BufTy).Contents (Elt F) → (⟨S1x8192, .f32⟩ : BufTy).Contents (Elt F)),
    StableHlo.unary main_v4 main_v8 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v7 main_v9 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v8 main_v9 main_v10 (addf : (⟨S8192x8192, .f32⟩ : BufTy).Contents (Elt F) → (⟨S8192x8192, .f32⟩ : BufTy).Contents (Elt F) → (⟨S8192x8192, .f32⟩ : BufTy).Contents (Elt F)),
    StableHlo.unary main_arg1 main_v11 ((transpose S32x8192 [1, 0] · transposes_S8192x32_S32x8192_1_0) : (⟨S8192x32, .f32⟩ : BufTy).Contents (Elt F) → (⟨S32x8192, .f32⟩ : BufTy).Contents (Elt F)),
    StableHlo.binary main_v1 main_v11 main_v12 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    StableHlo.nullary main_cst_1 (constant S_ .f32 0x40000000#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v13 main_v12 main_v14 (mulf : (⟨S8192x8192, .f32⟩ : BufTy).Contents (Elt F) → (⟨S8192x8192, .f32⟩ : BufTy).Contents (Elt F) → (⟨S8192x8192, .f32⟩ : BufTy).Contents (Elt F)),
    StableHlo.binary main_v10 main_v14 main_v15 (subf : (⟨S8192x8192, .f32⟩ : BufTy).Contents (Elt F) → (⟨S8192x8192, .f32⟩ : BufTy).Contents (Elt F) → (⟨S8192x8192, .f32⟩ : BufTy).Contents (Elt F)) ]
theorem opsA_sub : (opsA : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
/-- The nearest code. -/
abbrev opsB : List (HloOp τ sig (Elt F)) :=
  [ StableHlo.TRef.nullary (.of main_call0_v0 : StableHlo.TRef sig ⟨S8192x8192, .i32⟩) (iotaInDim S8192x8192 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v15 : StableHlo.TRef sig ⟨S8192x8192, .f32⟩) (.of main_call0_v0 : StableHlo.TRef sig ⟨S8192x8192, .i32⟩) (.of main_call0_cst : StableHlo.TRef sig ⟨S_, .f32⟩) (.of main_call0_c : StableHlo.TRef sig ⟨S_, .i32⟩) (.of main_call0_v1_0 : StableHlo.TRef sig ⟨S8192, .f32⟩) (fun x y u v j => (Host.argReduce reducer_argmin_f32_i32 x y u v reducesTo_S8192x8192_S8192_d1 h_S_ j).1),
    StableHlo.TRef.quaternary (.of main_v15 : StableHlo.TRef sig ⟨S8192x8192, .f32⟩) (.of main_call0_v0 : StableHlo.TRef sig ⟨S8192x8192, .i32⟩) (.of main_call0_cst : StableHlo.TRef sig ⟨S_, .f32⟩) (.of main_call0_c : StableHlo.TRef sig ⟨S_, .i32⟩) (.of main_v16 : StableHlo.TRef sig ⟨S8192, .i32⟩) (fun x y u v j => (Host.argReduce reducer_argmin_f32_i32 x y u v reducesTo_S8192x8192_S8192_d1 h_S_ j).2) ]
theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub ..⟩
/-- The one-hot rows. -/
abbrev opsC : List (HloOp τ sig (Elt F)) :=
  [ StableHlo.TRef.unary (.of main_v16 : StableHlo.TRef sig ⟨S8192, .i32⟩) (.of main_call1_v0 : StableHlo.TRef sig ⟨S8192x1, .i32⟩) (broadcastInDim S8192x1 ![0] bcast_S8192_S8192x1_0),
    StableHlo.TRef.nullary (.of main_call1_v1 : StableHlo.TRef sig ⟨S1x8192, .i32⟩) (iotaInDim S1x8192 32 1),
    StableHlo.TRef.unary (.of main_call1_v0 : StableHlo.TRef sig ⟨S8192x1, .i32⟩) (.of main_call1_v2 : StableHlo.TRef sig ⟨S8192x8192, .i32⟩) (broadcastInDim S8192x8192 ![0, 1] bcast_S8192x1_S8192x8192_0_1),
    StableHlo.TRef.unary (.of main_call1_v1 : StableHlo.TRef sig ⟨S1x8192, .i32⟩) (.of main_call1_v3 : StableHlo.TRef sig ⟨S8192x8192, .i32⟩) (broadcastInDim S8192x8192 ![0, 1] bcast_S1x8192_S8192x8192_0_1),
    StableHlo.TRef.binary (.of main_call1_v2 : StableHlo.TRef sig ⟨S8192x8192, .i32⟩) (.of main_call1_v3 : StableHlo.TRef sig ⟨S8192x8192, .i32⟩) (.of main_call1_v4 : StableHlo.TRef sig ⟨S8192x8192, .i1⟩) (cmpi .eq),
    StableHlo.TRef.unary (.of main_call1_v4 : StableHlo.TRef sig ⟨S8192x8192, .i1⟩) (.of main_v17 : StableHlo.TRef sig ⟨S8192x8192, .f32⟩) (uitofp .f32) ]
theorem opsC_sub : (opsC : List (HloOp τ sig (Elt F))).Forall fun op => op.bufs ⊆ tcRefs τ sig :=
  ⟨unary_bufs_sub .., nullary_bufs_sub .., unary_bufs_sub .., unary_bufs_sub .., binary_bufs_sub .., unary_bufs_sub ..⟩
/-- The quantized rows and the two mean squared errors. -/
abbrev opsD : List (HloOp τ sig (Elt F)) :=
  [ StableHlo.binary main_v17 main_arg1 main_v18 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    StableHlo.reshape main_v18 main_v19 (rfl : (.f32 : EltTy) = .f32) shapeCasts_S8192x32_S8x32x32x32,
    StableHlo.binary main_v19 main_v0 main_v20 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v20 main_v20 main_v21 (mulf : (⟨S8x32x32x32, .f32⟩ : BufTy).Contents (Elt F) → (⟨S8x32x32x32, .f32⟩ : BufTy).Contents (Elt F) → (⟨S8x32x32x32, .f32⟩ : BufTy).Contents (Elt F)),
    StableHlo.nullary main_cst_2 (constant S_ .f32 0x00000000#32),
    StableHlo.binary main_v21 main_cst_2 main_v22 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    StableHlo.nullary main_cst_3 (constant S_ .f32 0x48800000#32),
    StableHlo.binary main_v22 main_cst_3 main_v23 (Host.divf : (⟨S_, .f32⟩ : BufTy).Contents (Elt F) → (⟨S_, .f32⟩ : BufTy).Contents (Elt F) → (⟨S_, .f32⟩ : BufTy).Contents (Elt F)),
    StableHlo.binary main_v19 main_v0 main_v24 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v24 main_v24 main_v25 (mulf : (⟨S8x32x32x32, .f32⟩ : BufTy).Contents (Elt F) → (⟨S8x32x32x32, .f32⟩ : BufTy).Contents (Elt F) → (⟨S8x32x32x32, .f32⟩ : BufTy).Contents (Elt F)),
    StableHlo.nullary main_cst_4 (constant S_ .f32 0x00000000#32),
    StableHlo.binary main_v25 main_cst_4 main_v26 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    StableHlo.nullary main_cst_5 (constant S_ .f32 0x48800000#32),
    StableHlo.binary main_v26 main_cst_5 main_v27 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v23 main_v28 (mulf : (⟨S_, .f32⟩ : BufTy).Contents (Elt F) → (⟨S_, .f32⟩ : BufTy).Contents (Elt F) → (⟨S_, .f32⟩ : BufTy).Contents (Elt F)) ]
theorem opsD_sub : (opsD : List (HloOp τ sig (Elt F))).Forall fun op => op.bufs ⊆ tcRefs τ sig :=
  ⟨binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub ..⟩
/-- The perplexity. -/
abbrev opsE : List (HloOp τ sig (Elt F)) :=
  [ StableHlo.nullary main_cst_7 (constant S_ .f32 0x00000000#32),
    StableHlo.binary main_v17 main_cst_7 main_v29 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_cst_8 (constant S_ .f32 0x46000000#32),
    StableHlo.unary main_cst_8 main_v30 (broadcastInDim S8192 ![] bcast_S_S8192 : (⟨S_, .f32⟩ : BufTy).Contents (Elt F) → (⟨S8192, .f32⟩ : BufTy).Contents (Elt F)),
    StableHlo.binary main_v29 main_v30 main_v31 (Host.divf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x2EDBE6FF#32),
    StableHlo.unary main_cst_9 main_v32 (broadcastInDim S8192 ![] bcast_S_S8192 : (⟨S_, .f32⟩ : BufTy).Contents (Elt F) → (⟨S8192, .f32⟩ : BufTy).Contents (Elt F)),
    StableHlo.binary main_v31 main_v32 main_v33 (addf : (⟨S8192, .f32⟩ : BufTy).Contents (Elt F) → (⟨S8192, .f32⟩ : BufTy).Contents (Elt F) → (⟨S8192, .f32⟩ : BufTy).Contents (Elt F)),
    StableHlo.unary main_v33 main_v34 (Host.log : (⟨S8192, .f32⟩ : BufTy).Contents (Elt F) → (⟨S8192, .f32⟩ : BufTy).Contents (Elt F)),
    StableHlo.binary main_v31 main_v34 main_v35 (mulf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x00000000#32),
    StableHlo.binary main_v35 main_cst_10 main_v36 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v36 main_v37 (Host.negf : (⟨S_, .f32⟩ : BufTy).Contents (Elt F) → (⟨S_, .f32⟩ : BufTy).Contents (Elt F)),
    StableHlo.unary main_v37 main_v38 (Host.exp : (⟨S_, .f32⟩ : BufTy).Contents (Elt F) → (⟨S_, .f32⟩ : BufTy).Contents (Elt F)) ]
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
/-- The loss, the straight-through output and the codes as a column. -/
abbrev opsF : List (HloOp τ sig (Elt F)) :=
  [ StableHlo.nullary main_cst_11 (constant S_ .f32 0x46000000#32),
    StableHlo.binary main_cst_11 main_v38 main_v39 (subf : (⟨S_, .f32⟩ : BufTy).Contents (Elt F) → (⟨S_, .f32⟩ : BufTy).Contents (Elt F) → (⟨S_, .f32⟩ : BufTy).Contents (Elt F)),
    StableHlo.nullary main_cst_12 (constant S_ .f32 0x3DCCCCCD#32),
    StableHlo.binary main_cst_12 main_v39 main_v40 (mulf : (⟨S_, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v40 main_cst_13 main_v41 (Host.divf : (⟨S_, .f32⟩ : BufTy).Contents (Elt F) → (⟨S_, .f32⟩ : BufTy).Contents (Elt F) → (⟨S_, .f32⟩ : BufTy).Contents (Elt F)),
    StableHlo.binary main_v27 main_v28 main_v42 (addf : (⟨S_, .f32⟩ : BufTy).Contents (Elt F) → (⟨S_, .f32⟩ : BufTy).Contents (Elt F) → (⟨S_, .f32⟩ : BufTy).Contents (Elt F)),
    StableHlo.binary main_v42 main_v41 main_v43 (addf : (⟨S_, .f32⟩ : BufTy).Contents (Elt F) → (⟨S_, .f32⟩ : BufTy).Contents (Elt F) → (⟨S_, .f32⟩ : BufTy).Contents (Elt F)),
    StableHlo.binary main_v19 main_v0 main_v44 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v0 main_v44 main_v45 (addf : (⟨S8x32x32x32, .f32⟩ : BufTy).Contents (Elt F) → (⟨S8x32x32x32, .f32⟩ : BufTy).Contents (Elt F) → (⟨S8x32x32x32, .f32⟩ : BufTy).Contents (Elt F)),
    StableHlo.unary main_v45 main_v46 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F)),
    StableHlo.unary main_v16 main_v47 (broadcastInDim S8192x1 ![0] bcast_S8192_S8192x1_0 : (⟨S8192, .i32⟩ : BufTy).Contents (Elt F) → (⟨S8192x1, .i32⟩ : BufTy).Contents (Elt F)) ]
theorem opsF_sub : (opsF : List (HloOp τ sig (Elt F))).Forall fun op => op.bufs ⊆ tcRefs τ sig :=
  ⟨nullary_bufs_sub .., binary_bufs_sub .., nullary_bufs_sub .., binary_bufs_sub .., nullary_bufs_sub .., binary_bufs_sub .., binary_bufs_sub .., binary_bufs_sub .., binary_bufs_sub .., binary_bufs_sub .., unary_bufs_sub .., unary_bufs_sub ..⟩

theorem main_eq (c : Dev nD) : main (F := F) c = seq (opsA ++ (opsB ++ (opsC ++ (opsD ++ (opsE ++ opsF))))) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (opsA ++ (opsB ++ (opsC ++ (opsD ++ (opsE ++ opsF)))) : List (HloOp τ sig (Elt F))).Forall fun op => op.bufs ⊆ tcRefs τ sig := by
  simp only [List.forall_append]
  exact ⟨opsA_sub, opsB_sub, opsC_sub, opsD_sub, opsE_sub, opsF_sub⟩

theorem after_cat (l k : List (HloOp τ sig (Elt F))) (V : Valuation τ sig (Elt F)) : after (l ++ k) V = after k (after l V) := by
  induction l generalizing V with
  | nil => rfl
  | cons a l ih => exact ih _

/-! ## Each stage, from any contents -/

variable (V : Valuation τ sig (Elt F))

theorem A_arg0 : after opsA V (Proc.devRef .tc main_arg0) = V (Proc.devRef .tc main_arg0) := by
  after_results

theorem A_arg1 : after opsA V (Proc.devRef .tc main_arg1) = V (Proc.devRef .tc main_arg1) := by
  after_results

theorem A_v0 : after opsA V (Proc.devRef .tc main_v0) = perm (V (Proc.devRef .tc main_arg0)) := by
  after_results <;> rfl

theorem A_v15 : after opsA V (Proc.devRef .tc main_v15) = dist (flat (perm (V (Proc.devRef .tc main_arg0)))) (V (Proc.devRef .tc main_arg1)) := by
  after_results <;> rfl

theorem B_arg0 : after opsB V (Proc.devRef .tc main_arg0) = V (Proc.devRef .tc main_arg0) := by
  after_results

theorem B_arg1 : after opsB V (Proc.devRef .tc main_arg1) = V (Proc.devRef .tc main_arg1) := by
  after_results

theorem B_v0 : after opsB V (Proc.devRef .tc main_v0) = V (Proc.devRef .tc main_v0) := by
  after_results

theorem B_v16 : after opsB V (Proc.devRef .tc main_v16) = code (V (Proc.devRef .tc main_v15)) := by
  after_results <;> rfl

theorem C_arg0 : after opsC V (Proc.devRef .tc main_arg0) = V (Proc.devRef .tc main_arg0) := by
  after_results

theorem C_arg1 : after opsC V (Proc.devRef .tc main_arg1) = V (Proc.devRef .tc main_arg1) := by
  after_results

theorem C_v0 : after opsC V (Proc.devRef .tc main_v0) = V (Proc.devRef .tc main_v0) := by
  after_results

theorem C_v16 : after opsC V (Proc.devRef .tc main_v16) = V (Proc.devRef .tc main_v16) := by
  after_results

theorem C_v17 : after opsC V (Proc.devRef .tc main_v17) = hot (V (Proc.devRef .tc main_v16)) := by
  after_results <;> rfl

theorem D_arg0 : after opsD V (Proc.devRef .tc main_arg0) = V (Proc.devRef .tc main_arg0) := by
  after_results

theorem D_arg1 : after opsD V (Proc.devRef .tc main_arg1) = V (Proc.devRef .tc main_arg1) := by
  after_results

theorem D_v0 : after opsD V (Proc.devRef .tc main_v0) = V (Proc.devRef .tc main_v0) := by
  after_results

theorem D_v16 : after opsD V (Proc.devRef .tc main_v16) = V (Proc.devRef .tc main_v16) := by
  after_results

theorem D_v17 : after opsD V (Proc.devRef .tc main_v17) = V (Proc.devRef .tc main_v17) := by
  after_results

theorem D_v19 : after opsD V (Proc.devRef .tc main_v19) = quant (V (Proc.devRef .tc main_v17)) (V (Proc.devRef .tc main_arg1)) := by
  after_results <;> rfl

theorem D_v27 : after opsD V (Proc.devRef .tc main_v27) = mse (quant (V (Proc.devRef .tc main_v17)) (V (Proc.devRef .tc main_arg1))) (V (Proc.devRef .tc main_v0)) := by
  after_results <;> rfl

theorem D_v28 : after opsD V (Proc.devRef .tc main_v28) = mulf (constant S_ .f32 0x3E800000#32) (mse (quant (V (Proc.devRef .tc main_v17)) (V (Proc.devRef .tc main_arg1))) (V (Proc.devRef .tc main_v0))) := by
  after_results <;> rfl

theorem E_arg0 : after opsE V (Proc.devRef .tc main_arg0) = V (Proc.devRef .tc main_arg0) := by
  after_results

theorem E_arg1 : after opsE V (Proc.devRef .tc main_arg1) = V (Proc.devRef .tc main_arg1) := by
  after_results

theorem E_v0 : after opsE V (Proc.devRef .tc main_v0) = V (Proc.devRef .tc main_v0) := by
  after_results

theorem E_v16 : after opsE V (Proc.devRef .tc main_v16) = V (Proc.devRef .tc main_v16) := by
  after_results

theorem E_v17 : after opsE V (Proc.devRef .tc main_v17) = V (Proc.devRef .tc main_v17) := by
  after_results

theorem E_v19 : after opsE V (Proc.devRef .tc main_v19) = V (Proc.devRef .tc main_v19) := by
  after_results

theorem E_v27 : after opsE V (Proc.devRef .tc main_v27) = V (Proc.devRef .tc main_v27) := by
  after_results

theorem E_v28 : after opsE V (Proc.devRef .tc main_v28) = V (Proc.devRef .tc main_v28) := by
  after_results

theorem E_v38 : after opsE V (Proc.devRef .tc main_v38) = perp (share (V (Proc.devRef .tc main_v17))) := by
  after_results <;> rfl

theorem F_arg0 : after opsF V (Proc.devRef .tc main_arg0) = V (Proc.devRef .tc main_arg0) := by
  after_results

theorem F_arg1 : after opsF V (Proc.devRef .tc main_arg1) = V (Proc.devRef .tc main_arg1) := by
  after_results

theorem F_v17 : after opsF V (Proc.devRef .tc main_v17) = V (Proc.devRef .tc main_v17) := by
  after_results

theorem F_v38 : after opsF V (Proc.devRef .tc main_v38) = V (Proc.devRef .tc main_v38) := by
  after_results

theorem F_v43 : after opsF V (Proc.devRef .tc main_v43) = addf (addf (V (Proc.devRef .tc main_v27)) (V (Proc.devRef .tc main_v28))) (Host.divf (mulf (constant S_ .f32 0x3DCCCCCD#32) (subf (constant S_ .f32 0x46000000#32) (V (Proc.devRef .tc main_v38)))) (constant S_ .f32 0x46000000#32)) := by
  after_results <;> rfl

theorem F_v46 : after opsF V (Proc.devRef .tc main_v46) = through (V (Proc.devRef .tc main_v19)) (V (Proc.devRef .tc main_v0)) := by
  after_results <;> rfl

theorem F_v47 : after opsF V (Proc.devRef .tc main_v47) = column (V (Proc.devRef .tc main_v16)) := by
  after_results <;> rfl

/-- The whole run's contents. -/
abbrev final : Valuation τ sig (Elt F) := after (opsA ++ (opsB ++ (opsC ++ (opsD ++ (opsE ++ opsF))))) V
/-- The codes, over the arguments. -/
def codes (x : FVec F S8x32x32x32 .f32) (e : FVec F S8192x32 .f32) : Vec F S8192 .i32 := code (dist (flat (perm x)) e)

theorem final_arg0 : final V (Proc.devRef .tc main_arg0) = V (Proc.devRef .tc main_arg0) := by
  unfold final
  simp only [after_cat]
  rw [F_arg0, E_arg0, D_arg0, C_arg0, B_arg0, A_arg0]
theorem final_arg1 : final V (Proc.devRef .tc main_arg1) = V (Proc.devRef .tc main_arg1) := by
  unfold final
  simp only [after_cat]
  rw [F_arg1, E_arg1, D_arg1, C_arg1, B_arg1, A_arg1]
theorem final_v17 : final V (Proc.devRef .tc main_v17) = hot (codes (V (Proc.devRef .tc main_arg0)) (V (Proc.devRef .tc main_arg1))) := by
  unfold final
  simp only [after_cat]
  rw [F_v17, E_v17, D_v17, C_v17, B_v16, A_v15]
  rfl
theorem final_v38 : final V (Proc.devRef .tc main_v38) = perp (share (hot (codes (V (Proc.devRef .tc main_arg0)) (V (Proc.devRef .tc main_arg1))))) := by
  unfold final
  simp only [after_cat]
  rw [F_v38, E_v38, D_v17, C_v17, B_v16, A_v15]
  rfl
theorem final_v43 : final V (Proc.devRef .tc main_v43) = loss (mse (quant (hot (codes (V (Proc.devRef .tc main_arg0)) (V (Proc.devRef .tc main_arg1)))) (V (Proc.devRef .tc main_arg1))) (perm (V (Proc.devRef .tc main_arg0)))) (perp (share (hot (codes (V (Proc.devRef .tc main_arg0)) (V (Proc.devRef .tc main_arg1)))))) := by
  unfold final
  simp only [after_cat]
  rw [F_v43, E_v27, E_v28, E_v38, D_v27, D_v28, D_v17, C_v17, C_arg1, C_v0, B_v16, B_v0, B_arg1, A_v15, A_v0, A_arg1]
  rfl
theorem final_v46 : final V (Proc.devRef .tc main_v46) = through (quant (hot (codes (V (Proc.devRef .tc main_arg0)) (V (Proc.devRef .tc main_arg1)))) (V (Proc.devRef .tc main_arg1))) (perm (V (Proc.devRef .tc main_arg0))) := by
  unfold final
  simp only [after_cat]
  rw [F_v46, E_v19, E_v0, D_v19, D_v0, C_v17, C_v0, C_arg1, B_v16, B_v0, B_arg1, A_v15, A_v0, A_arg1]
  rfl
theorem final_v47 : final V (Proc.devRef .tc main_v47) = column (codes (V (Proc.devRef .tc main_arg0)) (V (Proc.devRef .tc main_arg1))) := by
  unfold final
  simp only [after_cat]
  rw [F_v47, E_v16, D_v16, C_v16, B_v16, A_v15]
  rfl

/-- From any memory with zero counters, every fair run of the reference ends with every buffer at `final`. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = final (launchContents m d) (Proc.devRef .tc b) :=
  run_seq scopedRefs_eq scopedSems_eq defs main (fun _ => opsA ++ (opsB ++ (opsC ++ (opsD ++ (opsE ++ opsF))))) main_eq
    (fun _ => ops_sub) m ρ

end Cert.VQ.Ref

end
-- ==== Proof.KernelHost.lean ====
/-
  The kernel's host lines before the region, over the arguments.

  They are the reference's first stages (the tokens, the distances, the nearest codes, the one-hot rows), then the codes
  as a column and the codebook in the narrow format. Each list is read from any contents, then composed.
-/
module

public import proofs.«01_k».proof.Proof.Gen.KernelIdeal.Frame
public import proofs.«01_k».proof.Proof.RefRun

@[expose] public section

noncomputable section

namespace Cert.VQ.Host

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

theorem A_arg0 : after hostOps0 V (Proc.devRef .tc main_arg0) = (V (Proc.devRef .tc main_arg0)) := by
  after_results
theorem A_arg1 : after hostOps0 V (Proc.devRef .tc main_arg1) = (V (Proc.devRef .tc main_arg1)) := by
  after_results
theorem A_v1 : after hostOps0 V (Proc.devRef .tc main_v1) = Ref.flat (Ref.perm (V (Proc.devRef .tc main_arg0))) := by
  after_results <;> rfl
theorem A_v15 : after hostOps0 V (Proc.devRef .tc main_v15) = Ref.dist (Ref.flat (Ref.perm (V (Proc.devRef .tc main_arg0)))) (V (Proc.devRef .tc main_arg1)) := by
  after_results <;> rfl
theorem B_arg1 : after hostOps0_1 V (Proc.devRef .tc main_arg1) = (V (Proc.devRef .tc main_arg1)) := by
  after_results
theorem B_v1 : after hostOps0_1 V (Proc.devRef .tc main_v1) = (V (Proc.devRef .tc main_v1)) := by
  after_results
theorem B_v16 : after hostOps0_1 V (Proc.devRef .tc main_v16) = Ref.code (V (Proc.devRef .tc main_v15)) := by
  after_results <;> rfl
theorem C_arg1 : after hostOps0_2 V (Proc.devRef .tc main_arg1) = (V (Proc.devRef .tc main_arg1)) := by
  after_results
theorem C_v1 : after hostOps0_2 V (Proc.devRef .tc main_v1) = (V (Proc.devRef .tc main_v1)) := by
  after_results
theorem C_v16 : after hostOps0_2 V (Proc.devRef .tc main_v16) = (V (Proc.devRef .tc main_v16)) := by
  after_results
theorem C_v17 : after hostOps0_2 V (Proc.devRef .tc main_v17) = Ref.hot (V (Proc.devRef .tc main_v16)) := by
  after_results <;> rfl
theorem D_v1 : after hostOps0_3 V (Proc.devRef .tc main_v1) = (V (Proc.devRef .tc main_v1)) := by
  after_results
theorem D_v16 : after hostOps0_3 V (Proc.devRef .tc main_v16) = (V (Proc.devRef .tc main_v16)) := by
  after_results
theorem D_v17 : after hostOps0_3 V (Proc.devRef .tc main_v17) = (V (Proc.devRef .tc main_v17)) := by
  after_results
theorem D_v18 : after hostOps0_3 V (Proc.devRef .tc main_v18) = Ref.column (F := F) (V (Proc.devRef .tc main_v16)) := by
  after_results <;> rfl
theorem D_v19 : after hostOps0_3 V (Proc.devRef .tc main_v19) = truncf .bf16 (V (Proc.devRef .tc main_arg1)) bitsLt_bf16_f32 := by
  after_results <;> rfl

theorem after_cat (l k : List (HloOp τ sig (Elt F))) (V : Valuation τ sig (Elt F)) : after (l ++ k) V = after k (after l V) := by
  induction l generalizing V with
  | nil => rfl
  | cons a l ih => exact ih _

/-- The contents after all the lines before the region. -/
abbrev before : Valuation τ sig (Elt F) := after (List.flatten [hostOps0, hostOps0_1, hostOps0_2, hostOps0_3]) V

theorem before_eq : before V = after hostOps0_3 (after hostOps0_2 (after hostOps0_1 (after hostOps0 V))) := by
  unfold before
  simp only [List.flatten_cons, List.flatten_nil, List.append_nil]
  rw [after_cat, after_cat, after_cat]

theorem before_v1 : before V (Proc.devRef .tc main_v1) = Ref.flat (Ref.perm (V (Proc.devRef .tc main_arg0))) := by
  rw [before_eq, D_v1, C_v1, B_v1, A_v1]
theorem before_v16 : before V (Proc.devRef .tc main_v16) = Ref.codes (V (Proc.devRef .tc main_arg0)) (V (Proc.devRef .tc main_arg1)) := by
  rw [before_eq, D_v16, C_v16, B_v16, A_v15]
  rfl
theorem before_v17 : before V (Proc.devRef .tc main_v17) = Ref.hot (Ref.codes (V (Proc.devRef .tc main_arg0)) (V (Proc.devRef .tc main_arg1))) := by
  rw [before_eq, D_v17, C_v17, B_v16, A_v15]
  rfl
theorem before_v18 : before V (Proc.devRef .tc main_v18) = Ref.column (F := F) (Ref.codes (V (Proc.devRef .tc main_arg0)) (V (Proc.devRef .tc main_arg1))) := by
  rw [before_eq, D_v18, C_v16, B_v16, A_v15]
  rfl
theorem before_v19 : before V (Proc.devRef .tc main_v19) = truncf .bf16 (V (Proc.devRef .tc main_arg1)) bitsLt_bf16_f32 := by
  rw [before_eq, D_v19, C_arg1, B_arg1, A_arg1]

end Cert.VQ.Host

end
-- ==== Proof.KernelRun.lean ====
/-
  The kernel's run, read: what each result buffer holds after the region and the host lines that follow it.
-/
module

public import proofs.«01_k».proof.Proof.Arrays
public import proofs.«01_k».proof.Proof.KernelHost

@[expose] public section

noncomputable section

namespace Cert.VQ

open Cert.KernelIdeal Cert.KernelIdeal.Gen Idealize.ShloMosaic Idealize.ShloMosaic.TcCoe Idealize.SL.Sem Idealize.ShloMosaic.StableHlo

variable {F : FTy → Type} [FloatOps F]

/-! ## The host lines after the region -/

section Tail
variable (W : Valuation τ sig (Elt F))

/-- The array of outputs in the input's shape, channels first. -/
def unflat (G : FVec F S8192x32 .f32) : FVec F S8x32x32x32 .f32 :=
  transpose S8x32x32x32 [0, 3, 1, 2] (shapeCast S8x32x32x32 G shapeCasts_S8192x32_S8x32x32x32) transposes_S8x32x32x32_S8x32x32x32_0_3_1_2

theorem tail_v22 : after hostOps1 W (Proc.devRef .tc main_v22) = unflat (W (Proc.devRef .tc main_v20_0)) := by
  after_results <;> rfl
theorem tail_v23 : after hostOps1 W (Proc.devRef .tc main_v23) = shapeCast S_ (W (Proc.devRef .tc main_v20_1) : FVec F S1x1 .f32) shapeCasts_S1x1_S_ := by
  after_results <;> rfl
theorem tail_v24 : after hostOps1 W (Proc.devRef .tc main_v24) = shapeCast S_ (W (Proc.devRef .tc main_v20_2) : FVec F S1x1 .f32) shapeCasts_S1x1_S_ := by
  after_results <;> rfl
theorem tail_v25 : after hostOps1 W (Proc.devRef .tc main_v25) = Ref.column (F := F) (W (Proc.devRef .tc main_v16)) := by
  after_results <;> rfl
theorem tail_v17 : after hostOps1 W (Proc.devRef .tc main_v17) = W (Proc.devRef .tc main_v17) := by
  after_results
end Tail

/-! ## The results -/

variable (m : (ℓ : Loc nD τ sig) → Buf (Elt F) ℓ) (ρ : Dev nD → PrngReg)

/-- The contents after the region: the three arrays written, the rest kept. -/
abbrev mid (c : Dev nD) : Valuation τ sig (Elt F) :=
  Pipeline.withArrays spec0 c (V0 m c) fun w => (dats m 0 c).arrAt w cfg0.N

theorem mid_arr (c : Dev nD) (w : Fin 6) :
    mid m c (Proc.devRef .tc (Pipeline.arrRef spec0 w)) = (dats m 0 c).arrAt w cfg0.N :=
  Pipeline.withArrays_arr spec0 winFacts0.arr_inj c (V0 m c) _ w

theorem mid_v16 (c : Dev nD) : mid m c (Proc.devRef .tc main_v16) = V0 m c (Proc.devRef .tc main_v16) :=
  Pipeline.withArrays_of_ne spec0 c (V0 m c) _ main_v16 (by decide)
theorem mid_v17 (c : Dev nD) : mid m c (Proc.devRef .tc main_v17) = V0 m c (Proc.devRef .tc main_v17) :=
  Pipeline.withArrays_of_ne spec0 c (V0 m c) _ main_v17 (by decide)

/-- The two arguments. -/
abbrev argX (c : Dev nD) : FVec F S8x32x32x32 .f32 := m ((c : Thread nD τ).loc main_arg0)
abbrev argE (c : Dev nD) : FVec F S8192x32 .f32 := m ((c : Thread nD τ).loc main_arg1)

theorem V_v16 (c : Dev nD) : V0 m c (Proc.devRef .tc main_v16) = Ref.codes (argX m c) (argE m c) :=
  Host.before_v16 (fun b => m (c, b))
theorem V_v17 (c : Dev nD) : V0 m c (Proc.devRef .tc main_v17) = Ref.hot (Ref.codes (argX m c) (argE m c)) :=
  Host.before_v17 (fun b => m (c, b))
theorem V_v1 (c : Dev nD) : V m c main_v1 = Ref.flat (Ref.perm (argX m c)) := Host.before_v1 (fun b => m (c, b))
theorem V_v18 (c : Dev nD) : V m c main_v18 = Ref.column (F := F) (Ref.codes (argX m c) (argE m c)) :=
  Host.before_v18 (fun b => m (c, b))
theorem V_v19 (c : Dev nD) : V m c main_v19 = truncf .bf16 (argE m c) bitsLt_bf16_f32 := Host.before_v19 (fun b => m (c, b))

/-- The run, read. -/
theorem run : θ_run defs (onTc (τ := τ) (main (F := F))) ⟨m, fun _ => 0, ρ⟩ fun r => ∀ c : Dev nD,
    r.2.mem ((c : Thread nD τ).loc main_v23) = shapeCast S_ (lossOut m c) shapeCasts_S1x1_S_
    ∧ r.2.mem ((c : Thread nD τ).loc main_v22) = unflat ((dats m 0 c).arrAt 3 cfg0.N : FVec F S8192x32 .f32)
    ∧ r.2.mem ((c : Thread nD τ).loc main_v24) = shapeCast S_ (perpOut m c) shapeCasts_S1x1_S_
    ∧ r.2.mem ((c : Thread nD τ).loc main_v17) = Ref.hot (Ref.codes (argX m c) (argE m c))
    ∧ r.2.mem ((c : Thread nD τ).loc main_v25) = Ref.column (F := F) (Ref.codes (argX m c) (argE m c))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ?_) (run_main m ρ)
  have tail : ∀ b, Pipeline.afterTail₀ cfgs (dats m) 0 (V0 m) [hostOps1] c b = after hostOps1 (mid m c) (Proc.devRef .tc b) :=
    fun b => rfl
  refine ⟨?_, ?_, ?_, ?_, ?_, ?_, ?_⟩
  · rw [(h c).2 main_v23 (Pipeline.mem_restRefs_of main_v23 (by decide) (by decide)), tail, tail_v23, ← loss_final m c, ← mid_arr m c 4]
  · rw [(h c).2 main_v22 (Pipeline.mem_restRefs_of main_v22 (by decide) (by decide)), tail, tail_v22, ← mid_arr m c 3]
  · rw [(h c).2 main_v24 (Pipeline.mem_restRefs_of main_v24 (by decide) (by decide)), tail, tail_v24, ← perp_final m c, ← mid_arr m c 5]
  · rw [(h c).2 main_v17 (Pipeline.mem_restRefs_of main_v17 (by decide) (by decide)), tail, tail_v17, mid_v17, V_v17]
  · rw [(h c).2 main_v25 (Pipeline.mem_restRefs_of main_v25 (by decide) (by decide)), tail, tail_v25, mid_v16, V_v16]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.VQ
-- ==== Proof.Argmin.lean ====
/-
  The nearest-code search answers a row of the codebook: every code is below 8192.

  The search folds a pair (distance, position) over a row; each step keeps one of the two positions it compares, so the
  final position is the initial zero or one of the row's own positions.
-/
module

public import proofs.«01_k».proof.Proof.RefRun
public import Idealize.ShloMosaic.PureOps.Ideal.Laws
public import Idealize.ShloMosaic.PureOps.Reduce
public import Idealize.ShloMosaic.Lib.Pointwise

@[expose] public section

noncomputable section

namespace Cert.VQ.Ref

open Cert.ReferenceIdeal Cert.ReferenceIdeal.Gen Idealize.ShloMosaic

/-- One step of the search keeps the position of one of its two pairs. -/
theorem step_keeps (a b : Ideal .f32 × BitVec 32) :
    (reducer_argmin_f32_i32 a b).2 = a.2 ∨ (reducer_argmin_f32_i32 a b).2 = b.2 := by
  unfold reducer_argmin_f32_i32
  dsimp only [Scalar.select]
  split_ifs <;> simp

/-- A fold of such steps keeps any property shared by the initial position and all positions met. -/
theorem fold_keeps (P : BitVec 32 → Prop) (l : List (Ideal .f32 × BitVec 32)) (hl : ∀ p ∈ l, P p.2)
    (i : Ideal .f32 × BitVec 32) (hi : P i.2) : P (l.foldl reducer_argmin_f32_i32 i).2 := by
  induction l generalizing i with
  | nil => exact hi
  | cons a l ih =>
    refine ih (fun p hp => hl p (List.mem_cons_of_mem _ hp)) _ ?_
    rcases step_keeps i a with h | h
    · rw [h]; exact hi
    · rw [h]; exact hl a List.mem_cons_self

/-- The positions met along a fiber are entries of the array of positions. -/
theorem fiber_snd {s t : Shape} {axes : List (Fin s.rank)} {α β : Type} (x : s.Idx → α) (y : s.Idx → β)
    (h : s.ReducesTo axes t) (j : t.Idx) (p : α × β) (hp : p ∈ Host.argReduceFiber x y h j) : ∃ i, p.2 = y i := by
  unfold Host.argReduceFiber at hp
  obtain ⟨i, _, rfl⟩ := List.mem_map.1 hp
  exact ⟨_, rfl⟩

/-- A search over any array of positions that are all below 8192, from position zero, ends below 8192. -/
theorem search_lt {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (hy : ∀ i, (y i).toNat < 8192) (hi : ∀ i, (iy i).toNat < 8192) :
    (Host.argReduce reducer_argmin_f32_i32 x y ix iy h hu j).2.toNat < 8192 := by
  rw [Ideal.argReduce_eq_reduce2, Host.reduce2_eq_foldl_fiber]
  refine fold_keeps (fun b => b.toNat < 8192) _ (fun p hp => ?_) _ (hi _)
  obtain ⟨i, e⟩ := fiber_snd x y h j p hp
  rw [e]
  exact hy i

/-- The positions along a row are below 8192. -/
theorem position_lt (i : S8192x8192.Idx) : (iotaInDim S8192x8192 32 1 i : BitVec 32).toNat < 8192 := by
  have h1 : (i 1).val < 8192 := (i 1).isLt
  have h2 : (iotaInDim S8192x8192 32 1 i : BitVec 32) = BitVec.ofNat 32 (i 1).val := rfl
  rw [h2, BitVec.toNat_ofNat]
  exact lt_of_le_of_lt (Nat.mod_le _ _) h1

/-- The search starts at position zero. -/
theorem start_lt (i : S_.Idx) : (constantI S_ 32 0#32 i : BitVec 32).toNat < 8192 := by
  have h2 : (constantI S_ 32 0#32 i : BitVec 32) = 0#32 := rfl
  rw [h2]
  decide

/-- The codes are the positions searches end with. -/
theorem code_fun {F : FTy → Type} [FloatOps F] (d : FVec F S8192x8192 .f32) :
    code (F := F) d = fun j => (Host.argReduce reducer_argmin_f32_i32 d (iotaInDim S8192x8192 32 1) (constant S_ .f32 0x7F800000#32)
      (constantI S_ 32 0#32) reducesTo_S8192x8192_S8192_d1 h_S_ j).2 := by
  with_unfolding_all rfl

/-- A code is the position a search ends with. -/
theorem code_eq {F : FTy → Type} [FloatOps F] (d : FVec F S8192x8192 .f32) (j : S8192.Idx) :
    code (F := F) d j = (Host.argReduce reducer_argmin_f32_i32 d (iotaInDim S8192x8192 32 1) (constant S_ .f32 0x7F800000#32)
      (constantI S_ 32 0#32) reducesTo_S8192x8192_S8192_d1 h_S_ j).2 := by
  exact congrFun (code_fun d) j

/-- Every code names a row of the codebook. -/
theorem code_lt (d : FVec Ideal S8192x8192 .f32) (j : S8192.Idx) : (code (F := Ideal) d j : BitVec 32).toNat < 8192 := by
  rw [code_eq]
  exact search_lt d (iotaInDim S8192x8192 32 1) (constant S_ .f32 0x7F800000#32) (constantI S_ 32 0#32)
    reducesTo_S8192x8192_S8192_d1 h_S_ j position_lt start_lt

end Cert.VQ.Ref
-- ==== Proof.OneHot.lean ====
/-
  One entry of the one-hot rows, in the tile and in the whole array.

  The tile compares positions with the codes in 16 bits, the plain program in 32: for codes and positions below 8192
  the two comparisons agree.
-/
module

public import proofs.«01_k».proof.Proof.Body
public import proofs.«01_k».proof.Proof.Argmin
public import Idealize.ShloMosaic.Lib.Pointwise

@[expose] public section

noncomputable section

namespace Cert.VQ

open Idealize.ShloMosaic

/-- The entry of a one-hot row: 1 where the code is the position. -/
def bit (b : BitVec 32) (k : Fin 8192) : EReal := if b = BitVec.ofNat 32 k.val then 1 else 0

theorem ofBits_one_bf16 : (Ideal.ofBits .bf16 0x3F80#16 : EReal) = 1 := by
  simp [pointwise]

theorem narrow_eq (b : BitVec 32) (hb : b.toNat < 8192) (k : Fin 8192) :
    (BitVec.ofNat 16 k.val = b.setWidth 16) ↔ b = BitVec.ofNat 32 k.val := by
  have hk := k.isLt
  constructor
  · intro h
    have h' := congrArg BitVec.toNat h
    simp only [BitVec.toNat_ofNat, BitVec.toNat_setWidth] at h'
    apply BitVec.eq_of_toNat_eq
    rw [BitVec.toNat_ofNat]
    omega
  · intro h
    have h' := congrArg BitVec.toNat h
    simp only [BitVec.toNat_ofNat] at h'
    apply BitVec.eq_of_toNat_eq
    simp only [BitVec.toNat_ofNat, BitVec.toNat_setWidth]
    omega

/-- The whole array's entry. -/
theorem Ref.hot_apply (K : Vec Ideal Cert.ReferenceIdeal.S8192 .i32) (n k : Fin 8192) :
    Ref.hot (F := Ideal) K (ix2 n k) = bit (K (ix1 n)) k := by
  unfold Ref.hot Ref.column
  pointwise
  unfold bit
  by_cases h : K (ix1 n) = BitVec.ofNat 32 k.val
  · rw [if_pos h, h]
    show (((IntOp.cmpi CmpIPredicate.eq (BitVec.ofNat 32 k.val) (BitVec.ofNat 32 k.val)).toNat : ℝ) : EReal) = 1
    simp [IntOp.cmpi]
  · rw [if_neg h]
    show (((IntOp.cmpi CmpIPredicate.eq (K (ix1 n) : BitVec 32) (BitVec.ofNat 32 k.val)).toNat : ℝ) : EReal) = 0
    simp [IntOp.cmpi, h]

/-- The tile's entry. -/
theorem tileHot_apply (k : Vec Ideal Cert.KernelIdeal.S256x1 .i32) (r : Fin 256) (n : Fin 8192)
    (hk : (k (ix2 r 0) : BitVec 32).toNat < 8192) :
    tileHot (F := Ideal) k (ix2 r n) = bit (k (ix2 r 0)) n := by
  unfold tileHot
  pointwise [Cert.KernelIdeal.Gen.k0_pay5]
  unfold bit
  by_cases h : (k (ix2 r 0) : BitVec 32) = BitVec.ofNat 32 n.val
  · rw [if_pos h, (narrow_eq _ hk n).2 h]
    simp [IntOp.cmpi, Scalar.select]
  · have h' := fun e => h ((narrow_eq _ hk n).1 e)
    have h'' : (BitVec.ofNat 16 n.val == BitVec.setWidth 16 (k (ix2 r 0))) = false := beq_eq_false_iff_ne.2 h'
    rw [if_neg h]
    simp [IntOp.cmpi, Scalar.select, h'']

end Cert.VQ
-- ==== Proof.Tile.lean ====
/-
  What one tile computes, entry by entry, over exact values.

  With `X` the tile's tokens and `K` its codes: the chosen codebook row of a token, the straight-through output, the
  histogram's increment and the squared error's increment.
-/
module

public import proofs.«01_k».proof.Proof.OneHot

@[expose] public section

noncomputable section

namespace Cert.VQ

open Idealize.ShloMosaic Cert.KernelIdeal Cert.KernelIdeal.Gen

/-- The codebook row of a code, read off a one-hot row as a sum. -/
def pick (b : BitVec 32) (e : FVec Ideal S8192x32 .f32) (d : Fin 32) : EReal :=
  ∑ k : Fin 8192, bit b k * e (ix2 k d)

theorem tile_pick (k : Vec Ideal S256x1 .i32) (e : FVec Ideal S8192x32 .bf16) (r : Fin 256) (d : Fin 32)
    (hk : (k (ix2 r 0) : BitVec 32).toNat < 8192) :
    k0_pay6 (F := Ideal) (tileHot k) e (ix2 r d) = pick (k (ix2 r 0)) e d := by
  unfold pick
  pointwise [k0_pay6]
  refine Finset.sum_congr rfl fun n _ => ?_
  rw [tileHot_apply k r n hk]

theorem tileOut_apply (x : FVec Ideal S256x32 .f32) (k : Vec Ideal S256x1 .i32) (e : FVec Ideal S8192x32 .bf16) (r : Fin 256) (d : Fin 32)
    (hk : (k (ix2 r 0) : BitVec 32).toNat < 8192) :
    tileOut (F := Ideal) x k e (ix2 r d) = x (ix2 r d) + (pick (k (ix2 r 0)) e d - x (ix2 r d)) := by
  unfold tileOut
  rw [← tile_pick k e r d hk]
  pointwise [k0_pay7, k0_pay4]

theorem tileCounts_apply (k : Vec Ideal S256x1 .i32) (h : FVec Ideal S1x8192 .f32) (n : Fin 8192)
    (hk : ∀ r, (k (ix2 r 0) : BitVec 32).toNat < 8192) :
    tileCounts (F := Ideal) k h (ix2 0 n) = h (ix2 0 n) + ∑ r : Fin 256, bit (k (ix2 r 0)) n := by
  unfold tileCounts
  pointwise [k0_pay9]
  congr 1
  refine Finset.sum_congr rfl fun r _ => ?_
  rw [tileHot_apply k r n (hk r)]

theorem tileErr_apply (x : FVec Ideal S256x32 .f32) (k : Vec Ideal S256x1 .i32) (e : FVec Ideal S8192x32 .bf16) (s : EReal)
    (hk : ∀ r, (k (ix2 r 0) : BitVec 32).toNat < 8192) :
    tileErr (F := Ideal) x k e s = s + ∑ r : Fin 256, ∑ d : Fin 32,
      (pick (k (ix2 r 0)) e d - x (ix2 r d)) * (pick (k (ix2 r 0)) e d - x (ix2 r d)) := by
  unfold tileErr
  simp only [← fun r d => tile_pick k e r d (hk r)]
  pointwise [k0_pay1, k0_pay4]

end Cert.VQ
-- ==== Proof.Sums.lean ====
/-
  The running histogram and the running squared error after the last tile are sums over all 8192 tokens.
-/
module

public import proofs.«01_k».proof.Proof.Tile
public import proofs.«01_k».proof.Proof.Blocks

@[expose] public section

noncomputable section

namespace Cert.VQ

open Cert.KernelIdeal Cert.KernelIdeal.Gen Idealize.ShloMosaic Idealize.ShloMosaic.TcCoe Idealize.SL.Sem

/-- A quantity of tokens, summed over one tile. -/
def part (g : Fin 8192 → EReal) (t : Fin cfg0.N) : EReal := ∑ r : Fin 256, g (row t r)

/-- The tiles up to `n` together, added in order. -/
theorem upto (g : Fin 8192 → EReal) (f : (n : ℕ) → n < cfg0.N → EReal) (h0 : ∀ h, f 0 h = 0 + part g ⟨0, h⟩)
    (hs : ∀ n h, f (n + 1) h = f n (Nat.lt_of_succ_lt h) + part g ⟨n + 1, h⟩) (n : ℕ) (h : n < cfg0.N) :
    f n h = ∑ i : Fin (n + 1), part g ⟨i.val, lt_of_le_of_lt (Nat.lt_succ_iff.1 i.isLt) h⟩ := by
  induction n with
  | zero => rw [h0, zero_add]; simp
  | succ n ih =>
    rw [hs, ih, Fin.sum_univ_castSucc (n := n + 1)]
    rfl

/-- All tiles together are all tokens. -/
theorem all_tokens (g : Fin 8192 → EReal) (f : (n : ℕ) → n < cfg0.N → EReal) (h0 : ∀ h, f 0 h = 0 + part g ⟨0, h⟩)
    (hs : ∀ n h, f (n + 1) h = f n (Nat.lt_of_succ_lt h) + part g ⟨n + 1, h⟩) (h : 31 < cfg0.N) :
    f 31 h = ∑ n : Fin 8192, g n := by
  rw [upto g f h0 hs 31 h, Fin.sum_univ_tiles 32 256 (by norm_num) g]
  rfl

variable (m : (ℓ : Loc nD τ sig) → Buf (Elt Ideal) ℓ) (c : Dev nD)
  (X : FVec Ideal S8192x32 .f32) (K : Vec Ideal S8192 .i32) (E : FVec Ideal S8192x32 .f32)

/-- The arrays the tiles read: tokens, codes that name codebook rows, codebook. -/
structure Arrays : Prop where
  tokens : ∀ t r d, xs m c t (ix2 r d) = X (ix2 (row t r) d)
  codes : ∀ t r, (ks m c t (ix2 r 0) : BitVec 32) = K (ix1 (row t r))
  book : ∀ t, es m c t = E
  small : ∀ n, (K (ix1 n) : BitVec 32).toNat < 8192

variable {m c X K E}

theorem Arrays.lt (A : Arrays m c X K E) (t : Fin cfg0.N) (r : Fin 256) : (ks m c t (ix2 r 0) : BitVec 32).toNat < 8192 := by
  rw [A.codes]; exact A.small _

/-- The squared distance of one token to its codebook row. -/
def err (X : FVec Ideal S8192x32 .f32) (K : Vec Ideal S8192 .i32) (E : FVec Ideal S8192x32 .f32) (n : Fin 8192) : EReal :=
  ∑ d : Fin 32, (pick (K (ix1 n)) E d - X (ix2 n d)) * (pick (K (ix1 n)) E d - X (ix2 n d))

theorem counts_step (A : Arrays m c X K E) (t : Fin cfg0.N) (h : FVec Ideal S1x8192 .f32) (k : Fin 8192) :
    tileCounts (ks m c t) h (ix2 0 k) = h (ix2 0 k) + part (fun n => bit (K (ix1 n)) k) t := by
  rw [tileCounts_apply _ _ _ (A.lt t)]
  unfold part
  simp only [A.codes]

theorem err_step (A : Arrays m c X K E) (t : Fin cfg0.N) (s : EReal) :
    tileErr (F := Ideal) (xs m c t) (ks m c t) (es m c t) s = s + part (err X K E) t := by
  rw [tileErr_apply _ _ _ _ (A.lt t)]
  unfold part err
  simp only [A.codes, A.tokens, A.book]

theorem zero_counts (k : Fin 8192) : (k0_pay8 : FVec Ideal S1x8192 .f32) (ix2 0 k) = 0 := by
  pointwise [k0_pay8]

theorem zero_err : (Scalar.ofBits .f32 0x00000000#32 : Ideal .f32) = (0 : EReal) := by
  simp [pointwise]

/-- The histogram after the last tile. -/
theorem counts_all (A : Arrays m c X K E) (h : 31 < cfg0.N) (k : Fin 8192) :
    (acc m c 31 h).1 (ix2 0 k) = ∑ n : Fin 8192, bit (K (ix1 n)) k :=
  all_tokens (fun n => bit (K (ix1 n)) k) (fun n h => (acc m c n h).1 (ix2 0 k))
    (fun h => by
      show tileCounts (F := Ideal) (ks m c ⟨0, h⟩) (k0_pay8 (F := Ideal)) (ix2 0 k) = _
      rw [counts_step A, zero_counts])
    (fun n h => counts_step A ⟨n + 1, h⟩ _ k) h

/-- The squared error after the last tile. -/
theorem err_all (A : Arrays m c X K E) (h : 31 < cfg0.N) : (acc m c 31 h).2 = ∑ n : Fin 8192, err X K E n :=
  all_tokens (err X K E) (fun n h => (acc m c n h).2)
    (fun h => by
      show tileErr (F := Ideal) (xs m c ⟨0, h⟩) (ks m c ⟨0, h⟩) (es m c ⟨0, h⟩) (Scalar.ofBits .f32 0x00000000#32) = _
      rw [err_step A, zero_err])
    (fun n h => err_step A ⟨n + 1, h⟩ _) h

end Cert.VQ
-- ==== Proof.Flat.lean ====
/-
  The plain program works in the input's four axes, the tiles on one row per token: the same numbers in the same order.
-/
module

public import proofs.«01_k».proof.Proof.Sums

@[expose] public section

noncomputable section

namespace Cert.VQ

open Cert.ReferenceIdeal Cert.ReferenceIdeal.Gen Idealize.ShloMosaic

/-- One row per token, back in the four axes, is the array itself. -/
theorem fold_flat (p : FVec Ideal S8x32x32x32 .f32) :
    shapeCast S8x32x32x32 (Ref.flat p) shapeCasts_S8192x32_S8x32x32x32 = p := by
  unfold Ref.flat
  rw [shapeCast_comp, shapeCast_id]

/-- The chosen rows, one per token. -/
def chosen (K : Vec Ideal S8192 .i32) (E : FVec Ideal S8192x32 .f32) : FVec Ideal S8192x32 .f32 :=
  Host.dotGeneral dot_S8192x8192_S8192x32_S8192x32_1_0_0_1_n_n none (Ref.hot K) E

theorem quant_eq (K : Vec Ideal S8192 .i32) (E : FVec Ideal S8192x32 .f32) :
    Ref.quant (Ref.hot K) E = shapeCast S8x32x32x32 (chosen K E) shapeCasts_S8192x32_S8x32x32x32 := rfl

theorem chosen_apply (K : Vec Ideal S8192 .i32) (E : FVec Ideal S8192x32 .f32) (n : Fin 8192) (d : Fin 32) :
    chosen K E (ix2 n d) = pick (K (ix1 n)) E d := by
  unfold chosen pick
  pointwise
  simp only [Ref.hot_apply]

/-- A sum over all four axes is a sum over tokens and channels. -/
theorem sum_flat (D : FVec Ideal S8192x32 .f32) (j : S_.Idx) :
    Host.reduceAdd (shapeCast S8x32x32x32 D shapeCasts_S8192x32_S8x32x32x32 : FVec Ideal S8x32x32x32 .f32)
        (constant (F := Ideal) S_ .f32 0x00000000#32) reducesTo_S8x32x32x32_S_d0_1_2_3 h_S_ j
      = ∑ n : Fin 8192, ∑ d : Fin 32, D (ix2 n d) := by
  have h0 : (Ideal.ofBits .f32 0x00000000#32 : EReal) = 0 := by simp [pointwise]
  show Ideal.hostReduceAdd _ _ (Ideal.ofBits .f32 0x00000000#32) j = _
  rw [h0]
  unfold Ideal.hostReduceAdd
  rw [zero_add, Finset.filter_true_of_mem (fun i _ => funext fun a => a.elim0)]
  refine (Equiv.sum_comp (Shape.reshapeEquiv shapeCasts_S8192x32_S8x32x32x32) D).trans ?_
  exact ValueIdx.sum_idx2 D

/-- The squared error of the plain program is the tokens' squared errors added up. -/
theorem squared_error (K : Vec Ideal S8192 .i32) (E : FVec Ideal S8192x32 .f32) (p : FVec Ideal S8x32x32x32 .f32) (j : S_.Idx) :
    Host.reduceAdd (mulf (subf (Ref.quant (Ref.hot K) E) p) (subf (Ref.quant (Ref.hot K) E) p))
        (constant (F := Ideal) S_ .f32 0x00000000#32) reducesTo_S8x32x32x32_S_d0_1_2_3 h_S_ j
      = ∑ n : Fin 8192, err (Ref.flat p) K E n := by
  have e : mulf (subf (Ref.quant (Ref.hot K) E) p) (subf (Ref.quant (Ref.hot K) E) p)
      = shapeCast S8x32x32x32 (mulf (subf (chosen K E) (Ref.flat p)) (subf (chosen K E) (Ref.flat p))) shapeCasts_S8192x32_S8x32x32x32 := by
    rw [quant_eq]
    conv_lhs => rw [← fold_flat p]
    rfl
  rw [e, sum_flat]
  refine Finset.sum_congr rfl fun n _ => Finset.sum_congr rfl fun d _ => ?_
  rw [← chosen_apply]
  rfl

/-- The straight-through output of the plain program, one row per token. -/
theorem through_eq (K : Vec Ideal S8192 .i32) (E : FVec Ideal S8192x32 .f32) (p : FVec Ideal S8x32x32x32 .f32) :
    Ref.through (Ref.quant (Ref.hot K) E) p
      = transpose S8x32x32x32 [0, 3, 1, 2]
          (shapeCast S8x32x32x32 (addf (Ref.flat p) (subf (chosen K E) (Ref.flat p))) shapeCasts_S8192x32_S8x32x32x32)
          transposes_S8x32x32x32_S8x32x32x32_0_3_1_2 := by
  unfold Ref.through
  rw [quant_eq]
  conv_lhs => rw [← fold_flat p]
  rfl

end Cert.VQ
-- ==== Proof.Scalars.lean ====
/-
  The perplexity and the loss: the last tile's scalars are the plain program's.
-/
module

public import proofs.«01_k».proof.Proof.Tile

@[expose] public section

noncomputable section

namespace Cert.VQ

open Cert.KernelIdeal Cert.KernelIdeal.Gen Idealize.ShloMosaic

/-- The share of the tokens on a code is its count over the number of tokens. -/
theorem share_apply (K : Vec Ideal S8192 .i32) (k : Fin 8192) :
    Ref.share (F := Ideal) (Ref.hot K) (ix1 k) = Ideal.div (∑ n : Fin 8192, bit (K (ix1 n)) k) (Ideal.ofBits .f32 0x46000000#32) := by
  unfold Ref.share
  pointwise
  simp only [Ref.hot_apply]

/-- The last tile's perplexity, from a histogram that counts every token. -/
theorem perp_eq (K : Vec Ideal S8192 .i32) (h : FVec Ideal S1x8192 .f32)
    (hh : ∀ k, h (ix2 0 k) = ∑ n : Fin 8192, bit (K (ix1 n)) k) (j : S_.Idx) :
    k0_pay2 (F := Ideal) h = Ref.perp (Ref.share (Ref.hot K)) j := by
  unfold Ref.perp
  pointwise [k0_pay2]
  simp only [share_apply, hh]
  have e : ∀ x : Ideal .f32, Scalar.exp x = Ideal.exp x := fun _ => rfl
  rw [e, zero_sub, Fin.sum_univ_one]

/-- The last tile's loss, from the whole squared error. -/
theorem loss_eq (h : FVec Ideal S1x8192 .f32) (e : EReal) (q p : FVec Ideal S8x32x32x32 .f32) (P : FVec Ideal S_ .f32) (j : S_.Idx)
    (hp : k0_pay2 (F := Ideal) h = P j)
    (he : Host.reduceAdd (mulf (subf q p) (subf q p)) (constant (F := Ideal) S_ .f32 0x00000000#32) Cert.ReferenceIdeal.Gen.reducesTo_S8x32x32x32_S_d0_1_2_3 Cert.ReferenceIdeal.Gen.h_S_ j = e) :
    k0_pay3 (F := Ideal) h e = Ref.loss (Ref.mse q p) P j := by
  unfold Ref.loss Ref.mse k0_pay3
  rw [hp]
  generalize Host.reduceAdd (mulf (subf q p) (subf q p)) (constant (F := Ideal) S_ .f32 0x00000000#32) Cert.ReferenceIdeal.Gen.reducesTo_S8x32x32x32_S_d0_1_2_3 Cert.ReferenceIdeal.Gen.h_S_ = T at he ⊢
  subst he
  rfl

end Cert.VQ
-- ==== Proof.Equation.lean ====
/-
  The five results of the kernel are the plain program's, over exact values, for every input.

  The codes name codebook rows, so each tile's one-hot rows are the whole program's; then the outputs, the squared error
  and the histogram agree, and with them the loss and the perplexity.
-/
module

public import proofs.«01_k».proof.Proof.KernelRun
public import proofs.«01_k».proof.Proof.Argmin
public import proofs.«01_k».proof.Proof.Flat
public import proofs.«01_k».proof.Proof.Scalars

@[expose] public section

noncomputable section

namespace Cert.VQ

open Cert.KernelIdeal Cert.KernelIdeal.Gen Idealize.ShloMosaic Idealize.ShloMosaic.TcCoe Idealize.SL.Sem

variable (m : (ℓ : Loc nD τ sig) → Buf (Elt Ideal) ℓ) (c : Dev nD)

/-- The codes of the kernel's arguments. -/
abbrev codesOf : Vec Ideal S8192 .i32 := Ref.codes (argX m c) (argE m c)
/-- The tokens of the kernel's arguments. -/
abbrev tokensOf : FVec Ideal S8x32x32x32 .f32 := Ref.perm (argX m c)

theorem column_apply (K : Vec Ideal S8192 .i32) (n : Fin 8192) :
    (Ref.column (F := Ideal) K (ix2 n 0) : BitVec 32) = K (ix1 n) := by
  unfold Ref.column
  pointwise

/-- What the tiles read. -/
theorem arrays : Arrays m c (Ref.flat (tokensOf m c)) (codesOf m c) (argE m c) where
  tokens := fun t r d => xs_apply m c _ (V_v1 m c) t r d
  codes := fun t r => (ks_apply m c _ (V_v18 m c) t r).trans (column_apply _ _)
  book := fun t => (es_eq m c _ (V_v19 m c) t).trans rfl
  small := fun n => Ref.code_lt _ _

/-- The array of outputs. -/
theorem outputs_eq : (dats m 0 c).arrAt 3 cfg0.N
    = (addf (Ref.flat (tokensOf m c)) (subf (chosen (codesOf m c) (argE m c)) (Ref.flat (tokensOf m c))) : FVec Ideal S8192x32 .f32) := by
  have A := arrays m c
  refine outputs_final m c _ fun t r d => ?_
  rw [tileOut_apply _ _ _ _ _ (A.lt t r), A.codes, A.tokens, A.book, ← chosen_apply]
  rfl

theorem quantized_eq : unflat ((dats m 0 c).arrAt 3 cfg0.N : FVec Ideal S8192x32 .f32)
    = Ref.through (Ref.quant (Ref.hot (codesOf m c)) (argE m c)) (tokensOf m c) := by
  rw [outputs_eq, through_eq]
  rfl

theorem perplexity_eq : shapeCast S_ (perpOut m c) shapeCasts_S1x1_S_ = Ref.perp (Ref.share (Ref.hot (codesOf m c))) := by
  funext j
  exact perp_eq (codesOf m c) _ (counts_all (arrays m c) last.isLt) j

theorem loss_value_eq : shapeCast S_ (lossOut m c) shapeCasts_S1x1_S_
    = Ref.loss (Ref.mse (Ref.quant (Ref.hot (codesOf m c)) (argE m c)) (tokensOf m c)) (Ref.perp (Ref.share (Ref.hot (codesOf m c)))) := by
  funext j
  refine loss_eq _ _ _ _ _ j (perp_eq (codesOf m c) _ (counts_all (arrays m c) last.isLt) j) ?_
  rw [squared_error]
  exact (err_all (arrays m c) last.isLt).symm

end Cert.VQ
-- ==== Proof.lean ====
/-
  The claims, assembled: each program's frame, the idealization, and the equality of all five results over exact values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference keeps its arguments and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c _).trans (Cert.VQ.Ref.final_arg0 _), (h c _).trans (Cert.VQ.Ref.final_arg1 _)⟩,
    Idealize.ShloMosaic.sem_eq_zero_of_no_sems (by decide) r.2⟩) (Cert.VQ.Ref.run m g)

/-- The five results agree. -/
theorem values : Cert.algebraic_KernelIdeal_ReferenceIdeal (hKernelIdeal := Cert.KernelIdeal.Gen.facts) (hReferenceIdeal := Cert.ReferenceIdeal.Gen.facts) := by
  intro m g m' g' _ hm
  refine ⟨fun c => Cert.VQ.Ref.loss (Cert.VQ.Ref.mse (Cert.VQ.Ref.quant (Cert.VQ.Ref.hot (Cert.VQ.codesOf m c)) (Cert.VQ.argE m c)) (Cert.VQ.tokensOf m c)) (Cert.VQ.Ref.perp (Cert.VQ.Ref.share (Cert.VQ.Ref.hot (Cert.VQ.codesOf m c)))),
    fun c => Cert.VQ.Ref.through (Cert.VQ.Ref.quant (Cert.VQ.Ref.hot (Cert.VQ.codesOf m c)) (Cert.VQ.argE m c)) (Cert.VQ.tokensOf m c),
    fun c => Cert.VQ.Ref.perp (Cert.VQ.Ref.share (Cert.VQ.Ref.hot (Cert.VQ.codesOf m c))),
    fun c => Cert.VQ.Ref.hot (Cert.VQ.codesOf m c),
    fun c => Cert.VQ.Ref.column (F := Ideal) (Cert.VQ.codesOf m c), ?_, ?_⟩
  · refine (θ_run _ _ _).mono (fun r h c => ?_) (Cert.VQ.run m g)
    obtain ⟨h0, h1, h2, h3, h4, h5, h6⟩ := h c
    exact ⟨h0.trans (Cert.VQ.loss_value_eq m c), h1.trans (Cert.VQ.quantized_eq m c), h2.trans (Cert.VQ.perplexity_eq m c), h3, h4, h5, h6⟩
  · refine (θ_run _ _ _).mono (fun r h c => ?_) (Cert.VQ.Ref.run m' g')
    obtain ⟨e0, e1⟩ := hm c
    have a0 : StableHlo.launchContents m' c (Proc.devRef .tc Cert.ReferenceIdeal.main_arg0) = Cert.VQ.argX m c := e0
    have a1 : StableHlo.launchContents m' c (Proc.devRef .tc Cert.ReferenceIdeal.main_arg1) = Cert.VQ.argE m c := e1
    refine ⟨(h c _).trans ?_, (h c _).trans ?_, (h c _).trans ?_, (h c _).trans ?_, (h c _).trans ?_,
      (h c _).trans (Cert.VQ.Ref.final_arg0 _), (h c _).trans (Cert.VQ.Ref.final_arg1 _)⟩
    · rw [Cert.VQ.Ref.final_v43, a0, a1]
    · rw [Cert.VQ.Ref.final_v46, a0, a1]
    · rw [Cert.VQ.Ref.final_v38, a0, a1]
    · rw [Cert.VQ.Ref.final_v17, a0, a1]
    · rw [Cert.VQ.Ref.final_v47, a0, a1]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => reference_frame m ρ,
  trivial, values⟩

end Cert.Proof

end
